-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_codes_in_range [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal_pre_codes_in_range (hKernelIdeal := hKernelIdeal) (hReferenceIdeal := hReferenceIdeal) (hPre_codes_in_range := hPre_codes_in_range)
-- ==== Pre_codes_in_range.lean ====
abbrev S20x1024x7x7x3 : Shape := ⟨5, ![20, 1024, 7, 7, 3]⟩
abbrev S20x1024 : Shape := ⟨2, ![20, 1024]⟩
abbrev S32x16 : Shape := ⟨2, ![32, 16]⟩
abbrev S16x16 : Shape := ⟨2, ![16, 16]⟩
abbrev S8x16 : Shape := ⟨2, ![8, 16]⟩
abbrev S2368x256 : Shape := ⟨2, ![2368, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S20x1024x7x7x3 : S_.BroadcastsInDim S20x1024x7x7x3 (![] : Fin 0 → Fin S20x1024x7x7x3.rank)
  bcast_S_S20x1024 : S_.BroadcastsInDim S20x1024 (![] : Fin 0 → Fin S20x1024.rank)

variable [Facts]

def fn {F : FTy → Type} [FloatOps F] (main_arg0 : IVec S20x1024x7x7x3 32) (main_arg1 : IVec S20x1024 32) (main_arg2 : FVec F S32x16 .f32) (main_arg3 : FVec F S16x16 .f32) (main_arg4 : FVec F S8x16 .f32) (main_arg5 : FVec F S16x16 .f32) (main_arg6 : FVec F S2368x256 .f32) (main_arg7 : FVec F S256 .f32) (main_arg8 : FVec F S256x256 .f32) (main_arg9 : FVec F S256 .f32) (main_arg10 : FVec F S256x1 .f32) (main_arg11 : FVec F S1 .f32) : IVec S20x1024x7x7x3 1 × IVec S20x1024 1 :=
  let main_c : IVec S_ 32 := constantI S_ 32 0#32
  let main_v0 : IVec S20x1024x7x7x3 32 := broadcastInDim S20x1024x7x7x3 ![] bcast_S_S20x1024x7x7x3 main_c
  let main_v1 : IVec S20x1024x7x7x3 1 := cmpi .sge main_arg0 main_v0
  let main_c_0 : IVec S_ 32 := constantI S_ 32 8#32
  let main_v2 : IVec S20x1024x7x7x3 32 := broadcastInDim S20x1024x7x7x3 ![] bcast_S_S20x1024x7x7x3 main_c_0
  let main_v3 : IVec S20x1024x7x7x3 1 := cmpi .slt main_arg0 main_v2
  let main_v4 : IVec S20x1024x7x7x3 1 := andi main_v1 main_v3
  let main_c_1 : IVec S_ 32 := constantI S_ 32 0#32
  let main_v5 : IVec S20x1024 32 := broadcastInDim S20x1024 ![] bcast_S_S20x1024 main_c_1
  let main_v6 : IVec S20x1024 1 := cmpi .sge main_arg1 main_v5
  let main_c_2 : IVec S_ 32 := constantI S_ 32 16#32
  let main_v7 : IVec S20x1024 32 := broadcastInDim S20x1024 ![] bcast_S_S20x1024 main_c_2
  let main_v8 : IVec S20x1024 1 := cmpi .slt main_arg1 main_v7
  let main_v9 : IVec S20x1024 1 := andi main_v6 main_v8
  (main_v4, main_v9)
-- ==== Kernel.lean ====
abbrev S20x1024x7x7x3 : Shape := ⟨5, ![20, 1024, 7, 7, 3]⟩
abbrev S20x1024 : Shape := ⟨2, ![20, 1024]⟩
abbrev S32x16 : Shape := ⟨2, ![32, 16]⟩
abbrev S16x16 : Shape := ⟨2, ![16, 16]⟩
abbrev S8x16 : Shape := ⟨2, ![8, 16]⟩
abbrev S2368x256 : Shape := ⟨2, ![2368, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S20480x147 : Shape := ⟨2, ![20480, 147]⟩
abbrev S20480x1 : Shape := ⟨2, ![20480, 1]⟩
abbrev S_ : Shape := ⟨0, ![]⟩
abbrev S1x16 : Shape := ⟨2, ![1, 16]⟩
abbrev S25x16 : Shape := ⟨2, ![25, 16]⟩
abbrev S1216 : Shape := ⟨1, ![1216]⟩
abbrev S1216x1 : Shape := ⟨2, ![1216, 1]⟩
abbrev S1x1 : Shape := ⟨2, ![1, 1]⟩
abbrev S1216x16 : Shape := ⟨2, ![1216, 16]⟩
abbrev S1232x256 : Shape := ⟨2, ![1232, 256]⟩
abbrev S148x16x256 : Shape := ⟨3, ![148, 16, 256]⟩
abbrev S5x256 : Shape := ⟨2, ![5, 256]⟩
abbrev S147x1x256 : Shape := ⟨3, ![147, 1, 256]⟩
abbrev S147x256 : Shape := ⟨2, ![147, 256]⟩
abbrev S152x256 : Shape := ⟨2, ![152, 256]⟩
abbrev S152x1 : Shape := ⟨2, ![152, 1]⟩
abbrev S16x1 : Shape := ⟨2, ![16, 1]⟩
abbrev S1x1x256 : Shape := ⟨3, ![1, 1, 256]⟩
abbrev S1x256 : Shape := ⟨2, ![1, 256]⟩
abbrev S16x256 : Shape := ⟨2, ![16, 256]⟩
abbrev S2048x147 : Shape := ⟨2, ![2048, 147]⟩
abbrev S2048x1 : Shape := ⟨2, ![2048, 1]⟩
abbrev S2048x256 : Shape := ⟨2, ![2048, 256]⟩
abbrev S2048x16 : Shape := ⟨2, ![2048, 16]⟩
abbrev S2048 : Shape := ⟨1, ![2048]⟩
abbrev S20x1024x1 : Shape := ⟨3, ![20, 1024, 1]⟩

abbrev nBuf : Space → Nat
  | .hbm => 125
  | .vmem => 16
  | .smem => 0
  | _ => 0

abbrev bufTy : (tb : Table) → Fin (tcTables nBuf tb) → BufTy
  | .hbm, ⟨0, _⟩ => ⟨S20x1024x7x7x3, .i32⟩
  | .hbm, ⟨1, _⟩ => ⟨S20x1024, .i32⟩
  | .hbm, ⟨2, _⟩ => ⟨S32x16, .f32⟩
  | .hbm, ⟨3, _⟩ => ⟨S16x16, .f32⟩
  | .hbm, ⟨4, _⟩ => ⟨S8x16, .f32⟩
  | .hbm, ⟨5, _⟩ => ⟨S16x16, .f32⟩
  | .hbm, ⟨6, _⟩ => ⟨S2368x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S20480x147, .i32⟩
  | .hbm, ⟨13, _⟩ => ⟨S20480x147, .i8⟩
  | .hbm, ⟨14, _⟩ => ⟨S20480x1, .i32⟩
  | .hbm, ⟨15, _⟩ => ⟨S20480x1, .i8⟩
  | .hbm, ⟨16, _⟩ => ⟨S8x16, .f32⟩
  | .hbm, ⟨17, _⟩ => ⟨S8x16, .f32⟩
  | .hbm, ⟨18, _⟩ => ⟨S_, .f32⟩
  | .hbm, ⟨19, _⟩ => ⟨S1x16, .f32⟩
  | .hbm, ⟨20, _⟩ => ⟨S25x16, .f32⟩
  | .hbm, ⟨21, _⟩ => ⟨S1216, .i32⟩
  | .hbm, ⟨22, _⟩ => ⟨S_, .i32⟩
  | .hbm, ⟨23, _⟩ => ⟨S_, .i32⟩
  | .hbm, ⟨24, _⟩ => ⟨S1216, .i32⟩
  | .hbm, ⟨25, _⟩ => ⟨S1216, .i32⟩
  | .hbm, ⟨26, _⟩ => ⟨S1216, .i32⟩
  | .hbm, ⟨27, _⟩ => ⟨S_, .i32⟩
  | .hbm, ⟨28, _⟩ => ⟨S1216, .i32⟩
  | .hbm, ⟨29, _⟩ => ⟨S1216, .i1⟩
  | .hbm, ⟨30, _⟩ => ⟨S1216, .i32⟩
  | .hbm, ⟨31, _⟩ => ⟨S1216, .i32⟩
  | .hbm, ⟨32, _⟩ => ⟨S_, .i32⟩
  | .hbm, ⟨33, _⟩ => ⟨S1216, .i32⟩
  | .hbm, ⟨34, _⟩ => ⟨S1216, .i1⟩
  | .hbm, ⟨35, _⟩ => ⟨S1216, .i1⟩
  | .hbm, ⟨36, _⟩ => ⟨S_, .i32⟩
  | .hbm, ⟨37, _⟩ => ⟨S1216, .i32⟩
  | .hbm, ⟨38, _⟩ => ⟨S1216, .i32⟩
  | .hbm, ⟨39, _⟩ => ⟨S1216, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S1216, .i32⟩
  | .hbm, ⟨47, _⟩ => ⟨S1216, .i32⟩
  | .hbm, ⟨48, _⟩ => ⟨S_, .i32⟩
  | .hbm, ⟨49, _⟩ => ⟨S1216, .i32⟩
  | .hbm, ⟨50, _⟩ => ⟨S1216, .i1⟩
  | .hbm, ⟨51, _⟩ => ⟨S_, .i32⟩
  | .hbm, ⟨52, _⟩ => ⟨S1216, .i32⟩
  | .hbm, ⟨53, _⟩ => ⟨S1216, .i1⟩
  | .hbm, ⟨54, _⟩ => ⟨S_, .i32⟩
  | .hbm, ⟨55, _⟩ => ⟨S_, .i1⟩
  | .hbm, ⟨56, _⟩ => ⟨S1216, .i1⟩
  | .hbm, ⟨57, _⟩ => ⟨S1216, .i1⟩
  | .hbm, ⟨58, _⟩ => ⟨S1216, .i1⟩
  | .hbm, ⟨59, _⟩ => ⟨S1216, .i32⟩
  | .hbm, ⟨60, _⟩ => ⟨S1216, .i32⟩
  | .hbm, ⟨61, _⟩ => ⟨S1216, .i32⟩
  | .hbm, ⟨62, _⟩ => ⟨S_, .i32⟩
  | .hbm, ⟨63, _⟩ => ⟨S1216, .i32⟩
  | .hbm, ⟨64, _⟩ => ⟨S1216, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S1216, .i32⟩
  | .hbm, ⟨72, _⟩ => ⟨S1216, .i32⟩
  | .hbm, ⟨73, _⟩ => ⟨S_, .i32⟩
  | .hbm, ⟨74, _⟩ => ⟨S1216, .i32⟩
  | .hbm, ⟨75, _⟩ => ⟨S1216, .i1⟩
  | .hbm, ⟨76, _⟩ => ⟨S_, .i32⟩
  | .hbm, ⟨77, _⟩ => ⟨S1216, .i32⟩
  | .hbm, ⟨78, _⟩ => ⟨S1216, .i1⟩
  | .hbm, ⟨79, _⟩ => ⟨S_, .i32⟩
  | .hbm, ⟨80, _⟩ => ⟨S_, .i1⟩
  | .hbm, ⟨81, _⟩ => ⟨S1216, .i1⟩
  | .hbm, ⟨82, _⟩ => ⟨S1216, .i1⟩
  | .hbm, ⟨83, _⟩ => ⟨S1216, .i1⟩
  | .hbm, ⟨84, _⟩ => ⟨S1216, .i32⟩
  | .hbm, ⟨85, _⟩ => ⟨S1216, .i32⟩
  | .hbm, ⟨86, _⟩ => ⟨S1216, .i32⟩
  | .hbm, ⟨87, _⟩ => ⟨S_, .i32⟩
  | .hbm, ⟨88, _⟩ => ⟨S1216, .i32⟩
  | .hbm, ⟨89, _⟩ => ⟨S1216, .i32⟩
  | .hbm, ⟨90, _⟩ => ⟨S1216, .i32⟩
  | .hbm, ⟨91, _⟩ => ⟨S_, .i32⟩
  | .hbm, ⟨92, _⟩ => ⟨S_, .i32⟩
  | .hbm, ⟨93, _⟩ => ⟨S1216, .i32⟩
  | .hbm, ⟨94, _⟩ => ⟨S1216, .i32⟩
  | .hbm, ⟨95, _⟩ => ⟨S_, .i32⟩
  | .hbm, ⟨96, _⟩ => ⟨S1216, .i32⟩
  | .hbm, ⟨97, _⟩ => ⟨S1216, .i1⟩
  | .hbm, ⟨98, _⟩ => ⟨S_, .i32⟩
  | .hbm, ⟨99, _⟩ => ⟨S1216, .i32⟩
  | .hbm, ⟨100, _⟩ => ⟨S1216, .i32⟩
  | .hbm, ⟨101, _⟩ => ⟨S1216, .i32⟩
  | .hbm, ⟨102, _⟩ => ⟨S1216x1, .i32⟩
  | .hbm, ⟨103, _⟩ => ⟨S1, .i32⟩
  | .hbm, ⟨104, _⟩ => ⟨S_, .i32⟩
  | .hbm, ⟨105, _⟩ => ⟨S1216x1, .i32⟩
  | .hbm, ⟨106, _⟩ => ⟨S1216x1, .i1⟩
  | .hbm, ⟨107, _⟩ => ⟨S1x1, .i32⟩
  | .hbm, ⟨108, _⟩ => ⟨S1216x1, .i32⟩
  | .hbm, ⟨109, _⟩ => ⟨S1216x1, .i1⟩
  | .hbm, ⟨110, _⟩ => ⟨S1216x1, .i1⟩
  | .hbm, ⟨111, _⟩ => ⟨S_, .i1⟩
  | .hbm, ⟨112, _⟩ => ⟨S1216, .i1⟩
  | .hbm, ⟨113, _⟩ => ⟨S1216x16, .f32⟩
  | .hbm, ⟨114, _⟩ => ⟨S1216x16, .i1⟩
  | .hbm, ⟨115, _⟩ => ⟨S_, .f32⟩
  | .hbm, ⟨116, _⟩ => ⟨S1216x16, .f32⟩
  | .hbm, ⟨117, _⟩ => ⟨S1216x16, .f32⟩
  | .hbm, ⟨118, _⟩ => ⟨S1232x256, .bf16⟩
  | .hbm, ⟨119, _⟩ => ⟨S1x256, .f32⟩
  | .hbm, ⟨120, _⟩ => ⟨S1x256, .f32⟩
  | .hbm, ⟨121, _⟩ => ⟨S1x256, .f32⟩
  | .hbm, ⟨122, _⟩ => ⟨S1x1, .f32⟩
  | .hbm, ⟨123, _⟩ => ⟨S20480x1, .f32⟩
  | .hbm, ⟨124, _⟩ => ⟨S20x1024x1, .f32⟩
  | .local _ .vmem, ⟨0, _⟩ => ⟨S1216x16, .f32⟩
  | .local _ .vmem, ⟨1, _⟩ => ⟨S2368x256, .f32⟩
  | .local _ .vmem, ⟨2, _⟩ => ⟨S16x16, .f32⟩
  | .local _ .vmem, ⟨3, _⟩ => ⟨S1232x256, .bf16⟩
  | .local _ .vmem, ⟨4, _⟩ => ⟨S2048x147, .i8⟩
  | .local _ .vmem, ⟨5, _⟩ => ⟨S2048x147, .i8⟩
  | .local _ .vmem, ⟨6, _⟩ => ⟨S2048x1, .i8⟩
  | .local _ .vmem, ⟨7, _⟩ => ⟨S2048x1, .i8⟩
  | .local _ .vmem, ⟨8, _⟩ => ⟨S1232x256, .bf16⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x1, .f32⟩
  | .local _ .vmem, ⟨14, _⟩ => ⟨S2048x1, .f32⟩
  | .local _ .vmem, ⟨15, _⟩ => ⟨S2048x1, .f32⟩
  | _, _ => ⟨S20x1024x7x7x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v9 : Ref sig .tc := ⟨.hbm, 39, rfl⟩
abbrev main_c_0 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v10 : Ref sig .tc := ⟨.hbm, 61, rfl⟩
abbrev main_c_1 : Ref sig .tc := ⟨.hbm, 62, rfl⟩
abbrev main_v11 : Ref sig .tc := ⟨.hbm, 63, rfl⟩
abbrev main_v12 : Ref sig .tc := ⟨.hbm, 64, rfl⟩
abbrev main_c_2 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v13 : Ref sig .tc := ⟨.hbm, 86, rfl⟩
abbrev main_c_3 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_c_4 : Ref sig .tc := ⟨.hbm, 91, rfl⟩
abbrev main_call3_v0 : Ref sig .tc := ⟨.hbm, 92, rfl⟩
abbrev main_call3_v1 : Ref sig .tc := ⟨.hbm, 93, rfl⟩
abbrev main_v17 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_call4_cst : Ref sig .tc := ⟨.hbm, 115, rfl⟩
abbrev main_call4_v15 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg8_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem8_1 : DmaSem sig := 15

abbrev nD : Nat := 1
abbrev τ : Topo := Topo.v7x

variable {F : FTy → Type} [FloatOps F]

abbrev grid0 : Pipeline.Grid := .none

abbrev stage0_0 : Fin 1 → Memref sig .tc .vmem S1216x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2368x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1232x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x147 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1232x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S20x1024x7x7x3 : Shape := ⟨5, ![20, 1024, 7, 7, 3]⟩
abbrev S20x1024 : Shape := ⟨2, ![20, 1024]⟩
abbrev S32x16 : Shape := ⟨2, ![32, 16]⟩
abbrev S16x16 : Shape := ⟨2, ![16, 16]⟩
abbrev S8x16 : Shape := ⟨2, ![8, 16]⟩
abbrev S2368x256 : Shape := ⟨2, ![2368, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S20480x7x7x3 : Shape := ⟨4, ![20480, 7, 7, 3]⟩
abbrev S20480x7x7x1 : Shape := ⟨4, ![20480, 7, 7, 1]⟩
abbrev S20480x7x7 : Shape := ⟨3, ![20480, 7, 7]⟩
abbrev S_ : Shape := ⟨0, ![]⟩
abbrev S1x1x1x1 : Shape := ⟨4, ![1, 1, 1, 1]⟩
abbrev S20480x7x7x16 : Shape := ⟨4, ![20480, 7, 7, 16]⟩
abbrev S20480x7x7x48 : Shape := ⟨4, ![20480, 7, 7, 48]⟩
abbrev S20x1024x1 : Shape := ⟨3, ![20, 1024, 1]⟩
abbrev S1x1x1 : Shape := ⟨3, ![1, 1, 1]⟩
abbrev S20x1024x16 : Shape := ⟨3, ![20, 1024, 16]⟩
abbrev S20x1024x2352 : Shape := ⟨3, ![20, 1024, 2352]⟩
abbrev S20x1024x2368 : Shape := ⟨3, ![20, 1024, 2368]⟩
abbrev S20x1024x256 : Shape := ⟨3, ![20, 1024, 256]⟩
abbrev S1x1x256 : Shape := ⟨3, ![1, 1, 256]⟩

abbrev nBuf : Space → Nat
  | .hbm => 128
  | .vmem => 0
  | .smem => 0
  | _ => 0

abbrev bufTy : (tb : Table) → Fin (tcTables nBuf tb) → BufTy
  | .hbm, ⟨0, _⟩ => ⟨S20x1024x7x7x3, .i32⟩
  | .hbm, ⟨1, _⟩ => ⟨S20x1024, .i32⟩
  | .hbm, ⟨2, _⟩ => ⟨S32x16, .f32⟩
  | .hbm, ⟨3, _⟩ => ⟨S16x16, .f32⟩
  | .hbm, ⟨4, _⟩ => ⟨S8x16, .f32⟩
  | .hbm, ⟨5, _⟩ => ⟨S16x16, .f32⟩
  | .hbm, ⟨6, _⟩ => ⟨S2368x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S20480x7x7x3, .i32⟩
  | .hbm, ⟨13, _⟩ => ⟨S20480x7x7x1, .i32⟩
  | .hbm, ⟨14, _⟩ => ⟨S20480x7x7, .i32⟩
  | .hbm, ⟨15, _⟩ => ⟨S_, .i32⟩
  | .hbm, ⟨16, _⟩ => ⟨S20480x7x7, .i32⟩
  | .hbm, ⟨17, _⟩ => ⟨S20480x7x7, .i1⟩
  | .hbm, ⟨18, _⟩ => ⟨S_, .i32⟩
  | .hbm, ⟨19, _⟩ => ⟨S20480x7x7, .i32⟩
  | .hbm, ⟨20, _⟩ => ⟨S20480x7x7, .i32⟩
  | .hbm, ⟨21, _⟩ => ⟨S20480x7x7, .i32⟩
  | .hbm, ⟨22, _⟩ => ⟨S20480x7x7x1, .i32⟩
  | .hbm, ⟨23, _⟩ => ⟨S1, .i32⟩
  | .hbm, ⟨24, _⟩ => ⟨S_, .i32⟩
  | .hbm, ⟨25, _⟩ => ⟨S20480x7x7x1, .i32⟩
  | .hbm, ⟨26, _⟩ => ⟨S20480x7x7x1, .i1⟩
  | .hbm, ⟨27, _⟩ => ⟨S1x1x1x1, .i32⟩
  | .hbm, ⟨28, _⟩ => ⟨S20480x7x7x1, .i32⟩
  | .hbm, ⟨29, _⟩ => ⟨S20480x7x7x1, .i1⟩
  | .hbm, ⟨30, _⟩ => ⟨S20480x7x7x1, .i1⟩
  | .hbm, ⟨31, _⟩ => ⟨S_, .i1⟩
  | .hbm, ⟨32, _⟩ => ⟨S20480x7x7, .i1⟩
  | .hbm, ⟨33, _⟩ => ⟨S20480x7x7x16, .f32⟩
  | .hbm, ⟨34, _⟩ => ⟨S20480x7x7x16, .i1⟩
  | .hbm, ⟨35, _⟩ => ⟨S_, .f32⟩
  | .hbm, ⟨36, _⟩ => ⟨S20480x7x7x16, .f32⟩
  | .hbm, ⟨37, _⟩ => ⟨S20480x7x7x16, .f32⟩
  | .hbm, ⟨38, _⟩ => ⟨S20480x7x7x1, .i32⟩
  | .hbm, ⟨39, _⟩ => ⟨S20480x7x7, .i32⟩
  | .hbm, ⟨40, _⟩ => ⟨S_, .i32⟩
  | .hbm, ⟨41, _⟩ => ⟨S20480x7x7, .i32⟩
  | .hbm, ⟨42, _⟩ => ⟨S20480x7x7, .i1⟩
  | .hbm, ⟨43, _⟩ => ⟨S_, .i32⟩
  | .hbm, ⟨44, _⟩ => ⟨S20480x7x7, .i32⟩
  | .hbm, ⟨45, _⟩ => ⟨S20480x7x7, .i32⟩
  | .hbm, ⟨46, _⟩ => ⟨S20480x7x7, .i32⟩
  | .hbm, ⟨47, _⟩ => ⟨S20480x7x7x1, .i32⟩
  | .hbm, ⟨48, _⟩ => ⟨S1, .i32⟩
  | .hbm, ⟨49, _⟩ => ⟨S_, .i32⟩
  | .hbm, ⟨50, _⟩ => ⟨S20480x7x7x1, .i32⟩
  | .hbm, ⟨51, _⟩ => ⟨S20480x7x7x1, .i1⟩
  | .hbm, ⟨52, _⟩ => ⟨S1x1x1x1, .i32⟩
  | .hbm, ⟨53, _⟩ => ⟨S20480x7x7x1, .i32⟩
  | .hbm, ⟨54, _⟩ => ⟨S20480x7x7x1, .i1⟩
  | .hbm, ⟨55, _⟩ => ⟨S20480x7x7x1, .i1⟩
  | .hbm, ⟨56, _⟩ => ⟨S_, .i1⟩
  | .hbm, ⟨57, _⟩ => ⟨S20480x7x7, .i1⟩
  | .hbm, ⟨58, _⟩ => ⟨S20480x7x7x16, .f32⟩
  | .hbm, ⟨59, _⟩ => ⟨S20480x7x7x16, .i1⟩
  | .hbm, ⟨60, _⟩ => ⟨S_, .f32⟩
  | .hbm, ⟨61, _⟩ => ⟨S20480x7x7x16, .f32⟩
  | .hbm, ⟨62, _⟩ => ⟨S20480x7x7x16, .f32⟩
  | .hbm, ⟨63, _⟩ => ⟨S20480x7x7x1, .i32⟩
  | .hbm, ⟨64, _⟩ => ⟨S20480x7x7, .i32⟩
  | .hbm, ⟨65, _⟩ => ⟨S_, .i32⟩
  | .hbm, ⟨66, _⟩ => ⟨S20480x7x7, .i32⟩
  | .hbm, ⟨67, _⟩ => ⟨S20480x7x7, .i1⟩
  | .hbm, ⟨68, _⟩ => ⟨S_, .i32⟩
  | .hbm, ⟨69, _⟩ => ⟨S20480x7x7, .i32⟩
  | .hbm, ⟨70, _⟩ => ⟨S20480x7x7, .i32⟩
  | .hbm, ⟨71, _⟩ => ⟨S20480x7x7, .i32⟩
  | .hbm, ⟨72, _⟩ => ⟨S20480x7x7x1, .i32⟩
  | .hbm, ⟨73, _⟩ => ⟨S1, .i32⟩
  | .hbm, ⟨74, _⟩ => ⟨S_, .i32⟩
  | .hbm, ⟨75, _⟩ => ⟨S20480x7x7x1, .i32⟩
  | .hbm, ⟨76, _⟩ => ⟨S20480x7x7x1, .i1⟩
  | .hbm, ⟨77, _⟩ => ⟨S1x1x1x1, .i32⟩
  | .hbm, ⟨78, _⟩ => ⟨S20480x7x7x1, .i32⟩
  | .hbm, ⟨79, _⟩ => ⟨S20480x7x7x1, .i1⟩
  | .hbm, ⟨80, _⟩ => ⟨S20480x7x7x1, .i1⟩
  | .hbm, ⟨81, _⟩ => ⟨S_, .i1⟩
  | .hbm, ⟨82, _⟩ => ⟨S20480x7x7, .i1⟩
  | .hbm, ⟨83, _⟩ => ⟨S20480x7x7x16, .f32⟩
  | .hbm, ⟨84, _⟩ => ⟨S20480x7x7x16, .i1⟩
  | .hbm, ⟨85, _⟩ => ⟨S_, .f32⟩
  | .hbm, ⟨86, _⟩ => ⟨S20480x7x7x16, .f32⟩
  | .hbm, ⟨87, _⟩ => ⟨S20480x7x7x16, .f32⟩
  | .hbm, ⟨88, _⟩ => ⟨S20480x7x7x48, .f32⟩
  | .hbm, ⟨89, _⟩ => ⟨S_, .i32⟩
  | .hbm, ⟨90, _⟩ => ⟨S20x1024, .i32⟩
  | .hbm, ⟨91, _⟩ => ⟨S20x1024, .i1⟩
  | .hbm, ⟨92, _⟩ => ⟨S_, .i32⟩
  | .hbm, ⟨93, _⟩ => ⟨S20x1024, .i32⟩
  | .hbm, ⟨94, _⟩ => ⟨S20x1024, .i32⟩
  | .hbm, ⟨95, _⟩ => ⟨S20x1024, .i32⟩
  | .hbm, ⟨96, _⟩ => ⟨S20x1024x1, .i32⟩
  | .hbm, ⟨97, _⟩ => ⟨S1, .i32⟩
  | .hbm, ⟨98, _⟩ => ⟨S_, .i32⟩
  | .hbm, ⟨99, _⟩ => ⟨S20x1024x1, .i32⟩
  | .hbm, ⟨100, _⟩ => ⟨S20x1024x1, .i1⟩
  | .hbm, ⟨101, _⟩ => ⟨S1x1x1, .i32⟩
  | .hbm, ⟨102, _⟩ => ⟨S20x1024x1, .i32⟩
  | .hbm, ⟨103, _⟩ => ⟨S20x1024x1, .i1⟩
  | .hbm, ⟨104, _⟩ => ⟨S20x1024x1, .i1⟩
  | .hbm, ⟨105, _⟩ => ⟨S_, .i1⟩
  | .hbm, ⟨106, _⟩ => ⟨S20x1024, .i1⟩
  | .hbm, ⟨107, _⟩ => ⟨S20x1024x16, .f32⟩
  | .hbm, ⟨108, _⟩ => ⟨S20x1024x16, .i1⟩
  | .hbm, ⟨109, _⟩ => ⟨S_, .f32⟩
  | .hbm, ⟨110, _⟩ => ⟨S20x1024x16, .f32⟩
  | .hbm, ⟨111, _⟩ => ⟨S20x1024x16, .f32⟩
  | .hbm, ⟨112, _⟩ => ⟨S20x1024x2352, .f32⟩
  | .hbm, ⟨113, _⟩ => ⟨S20x1024x2368, .f32⟩
  | .hbm, ⟨114, _⟩ => ⟨S20x1024x256, .f32⟩
  | .hbm, ⟨115, _⟩ => ⟨S1x1x256, .f32⟩
  | .hbm, ⟨116, _⟩ => ⟨S20x1024x256, .f32⟩
  | .hbm, ⟨117, _⟩ => ⟨S20x1024x256, .f32⟩
  | .hbm, ⟨118, _⟩ => ⟨S20x1024x256, .f32⟩
  | .hbm, ⟨119, _⟩ => ⟨S20x1024x256, .f32⟩
  | .hbm, ⟨120, _⟩ => ⟨S1x1x256, .f32⟩
  | .hbm, ⟨121, _⟩ => ⟨S20x1024x256, .f32⟩
  | .hbm, ⟨122, _⟩ => ⟨S20x1024x256, .f32⟩
  | .hbm, ⟨123, _⟩ => ⟨S20x1024x256, .f32⟩
  | .hbm, ⟨124, _⟩ => ⟨S20x1024x1, .f32⟩
  | .hbm, ⟨125, _⟩ => ⟨S1x1x1, .f32⟩
  | .hbm, ⟨126, _⟩ => ⟨S20x1024x1, .f32⟩
  | .hbm, ⟨127, _⟩ => ⟨S20x1024x1, .f32⟩
  | _, _ => ⟨S20x1024x7x7x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v9 : Ref sig .tc := ⟨.hbm, 87, rfl⟩
abbrev main_v10 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_v17 : Ref sig .tc := ⟨.hbm, 117, rfl⟩
abbrev main_v18 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩

abbrev nD : Nat := 1
abbrev τ : Topo := Topo.v7x

variable {F : FTy → Type} [FloatOps F]
-- ==== Proof.Codes.lean ====
/- The precondition, read at an index: image codes are below eight and actions below sixteen. -/
module

public import proofs.«01_k».proof.Pre_codes_in_range
public import Idealize.ShloMosaic.Lib.Affine
public import Idealize.ShloMosaic.Lib.Pointwise

@[expose] public section

noncomputable section

namespace Cert.Pre_codes_in_range

open Idealize.ShloMosaic

/-- The broadcasts the precondition states are broadcasts. -/
theorem facts : Facts where
  bcast_S_S20x1024x7x7x3 := by decide
  bcast_S_S20x1024 := by decide

/-- The word of a word's number is the word. -/
theorem ofNat_self (x : BitVec 32) : BitVec.ofNat 32 x.toNat = x := by
  apply BitVec.eq_of_toNat_eq
  rw [BitVec.toNat_ofNat, Nat.mod_eq_of_lt x.isLt]

/-- A word that is at least zero and below a small bound, signed, is below it as a natural number. -/
theorem code_lt (x : BitVec 32) (n : Nat) (hn : n < 2 ^ 31)
    (h : IntOp.andi (IntOp.cmpi .sge x 0#32) (IntOp.cmpi .slt x (BitVec.ofNat 32 n)) = 1#1) : x.toNat < n := by
  have h2 : IntOp.cmpi .sge x 0#32 = 1#1 ∧ IntOp.cmpi .slt x (BitVec.ofNat 32 n) = 1#1 := by
    generalize IntOp.cmpi .sge x 0#32 = p at h
    generalize IntOp.cmpi .slt x (BitVec.ofNat 32 n) = q at h
    revert p q
    decide
  rw [IntOp.cmpi_sge, IntOp.cmpi_slt] at h2
  obtain ⟨h0, h1⟩ := h2
  have hz : (0#32 : BitVec 32).toInt = 0 := by decide
  have hnn : (BitVec.ofNat 32 n).toInt = n := by
    rw [BitVec.toInt_eq_toNat_cond, BitVec.toNat_ofNat, Nat.mod_eq_of_lt (by omega), if_pos (by omega)]
  rw [hz] at h0
  rw [hnn] at h1
  rw [BitVec.toInt_eq_toNat_cond] at h0 h1
  split at h0
  · rename_i hx
    rw [if_pos hx] at h1
    omega
  · omega

variable [Facts] (x0 : IVec S20x1024x7x7x3 32) (x1 : IVec S20x1024 32) (x2 : FVec Ideal S32x16 .f32) (x3 : FVec Ideal S16x16 .f32)
  (x4 : FVec Ideal S8x16 .f32) (x5 : FVec Ideal S16x16 .f32) (x6 : FVec Ideal S2368x256 .f32) (x7 : FVec Ideal S256 .f32)
  (x8 : FVec Ideal S256x256 .f32) (x9 : FVec Ideal S256 .f32) (x10 : FVec Ideal S256x1 .f32) (x11 : FVec Ideal S1 .f32)

/-- Under the precondition every image code is below eight. -/
theorem image_lt (h : (fn x0 x1 x2 x3 x4 x5 x6 x7 x8 x9 x10 x11).1 = fun _ => 1#1) (i : S20x1024x7x7x3.Idx) : (x0 i).toNat < 8 :=
  code_lt (x0 i) 8 (by decide) (congrFun h i)

/-- Under the precondition every action is below sixteen. -/
theorem action_lt (h : (fn x0 x1 x2 x3 x4 x5 x6 x7 x8 x9 x10 x11).2 = fun _ => 1#1) (i : S20x1024.Idx) : (x1 i).toNat < 16 :=
  code_lt (x1 i) 16 (by decide) (congrFun h i)

end Cert.Pre_codes_in_range

end
-- ==== Proof.KernelRun.lean ====
/- The run of the kernel program at any float interpretation, with its result array: the launch of the generated frame certificate, read also at
   the result. -/
module

public import proofs.«01_k».proof.Proof.Gen.KernelIdeal.Frame

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel program from any memory with zero counters: every weakly fair execution terminates without a fault, the result
    array holds what the boundary valuation after the last host stretch says, the arguments are as launched, and every counter is zero. -/
theorem run_value : θ_run defs (onTc (τ := τ) (main (F := F))) ⟨m, fun _ => 0, ρ⟩ (fun r => (∀ c : Dev nD,
      r.2.mem ((c.tc : Thread nD τ).loc main_v25) = W13 m ρ c (Proc.devRef .tc main_v25) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨(fun c =>
      ⟨h c _ (mem_uc main_v25 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩), funext fun g => hz g (.inr (no_unscoped g.2))⟩)

end Cert.KernelIdeal.Val

end
-- ==== Proof.Host.lean ====
/- What the host operations before the two kernel calls leave in the calls' argument arrays: the image and action codes
   as bytes, the selected embedding rows of the first call, and the reshaped biases and last-layer weights. -/
module

public import proofs.«01_k».proof.Proof.Gen.KernelIdeal.Frame
public import Idealize.ShloMosaic.Lib.Pointwise
public import Idealize.ShloMosaic.Lib.StableHlo.RunRead

@[expose] public section

set_option maxRecDepth 16384

noncomputable section

namespace Cert.KernelIdeal.Val

open Cert.KernelIdeal.Gen
open Idealize.ShloMosaic Idealize.ShloMosaic.TcCoe Idealize.ShloMosaic.Tactic

/-- The quotient rounded down, as the host computes it: the truncated quotient, less one where the signs differ and the
    remainder is not zero. -/
def floorDiv (x : IVec S1216 32) (d : IVec S_ 32) : IVec S1216 32 :=
  select (andi (cmpi .ne (signi x) (broadcastInDim S1216 ![] bcast_S_S1216 (signi d)))
      (cmpi .ne (Host.remsi x (broadcastInDim S1216 ![] bcast_S_S1216 d)) (broadcastInDim S1216 ![] bcast_S_S1216 (constantI S_ 32 0#32))))
    (subi (Host.divsi x (broadcastInDim S1216 ![] bcast_S_S1216 d)) (broadcastInDim S1216 ![] bcast_S_S1216 (constantI S_ 32 1#32)))
    (Host.divsi x (broadcastInDim S1216 ![] bcast_S_S1216 d))

/-- The divisor the host's remainder divides by: one in place of zero. -/
def safeDiv (d : IVec S_ 32) : IVec S_ 32 := select (cmpi .eq d (constantI S_ 32 0#32)) (constantI S_ 32 1#32) d

/-- The remainder with the divisor's sign, as the host computes it. -/
def floorRem (x : IVec S1216 32) (d : IVec S_ 32) : IVec S1216 32 :=
  select (andi (cmpi .ne (cmpi .slt (Host.remsi x (broadcastInDim S1216 ![] bcast_S_S1216 (safeDiv d))) (broadcastInDim S1216 ![] bcast_S_S1216 (constantI S_ 32 0#32)))
        (broadcastInDim S1216 ![] bcast_S_S1216 (cmpi .slt (safeDiv d) (constantI S_ 32 0#32))))
      (cmpi .ne (Host.remsi x (broadcastInDim S1216 ![] bcast_S_S1216 (safeDiv d))) (broadcastInDim S1216 ![] bcast_S_S1216 (constantI S_ 32 0#32))))
    (addi (Host.remsi x (broadcastInDim S1216 ![] bcast_S_S1216 (safeDiv d))) (broadcastInDim S1216 ![] bcast_S_S1216 (safeDiv d)))
    (Host.remsi x (broadcastInDim S1216 ![] bcast_S_S1216 (safeDiv d)))

/-- The row of the stacked embedding tables each of the selected rows is: `8·channel + code`, or the zero row past a block's
    cells. -/
def rowOf (q : IVec S1216 32) (r : IVec S1216 32) (ch : IVec S1216 32) : IVec S1216 32 :=
  select (cmpi .slt r (broadcastInDim S1216 ![] bcast_S_S1216 (constantI S_ 32 147#32)))
    (addi (muli (broadcastInDim S1216 ![] bcast_S_S1216 (constantI S_ 32 8#32)) ch) q)
    (broadcastInDim S1216 ![] bcast_S_S1216 (constantI S_ 32 24#32))

/-- The wrapped row index, as the column the host's gather reads. -/
def wrapped (i : IVec S1216 32) : IVec S1216x1 32 :=
  broadcastInDim S1216x1 ![0] bcast_S1216_S1216x1_0
    (select (cmpi .slt i (broadcastInDim S1216 ![] bcast_S_S1216 (constantI S_ 32 0#32)))
      (addi i (broadcastInDim S1216 ![] bcast_S_S1216 (constantI S_ 32 25#32))) i)

/-- Which wrapped indices are rows of the stacked tables. -/
def inRange (j : IVec S1216x1 32) : IVec S1216x1 1 :=
  andi (cmpi .sge j (broadcastInDim S1216x1 ![] bcast_S_S1216x1 (constantI S_ 32 0#32)))
    (cmpi .sle j (broadcastInDim S1216x1 ![0, 1] bcast_S1x1_S1216x1_0_1 (broadcastInDim S1x1 ![1] bcast_S1_S1x1_1 (constantI S1 32 24#32))))

variable {F : FTy → Type} [FloatOps F]

/-- The stacked embedding tables: the first eight rows of the object and colour tables, the state table, and a zero row. -/
def stacked (o : FVec F S32x16 .f32) (k : FVec F S16x16 .f32) (s : FVec F S8x16 .f32) : FVec F S25x16 .f32 :=
  concatenate S25x16 0 [⟨S8x16, extractStridedSlice S8x16 ![0, 0] o slices_S32x16_S8x16_0_0⟩,
    ⟨S8x16, extractStridedSlice S8x16 ![0, 0] k slices_S16x16_S8x16_0_0⟩, ⟨S8x16, s⟩,
    ⟨S1x16, broadcastInDim S1x16 ![] bcast_S_S1x16 (constant S_ .f32 0x00000000#32)⟩] concatenates_S8x16_S8x16_S8x16_S1x16_S25x16_d0

/-- The rows taken from the stacked tables. -/
def taken (x : FVec F S25x16 .f32) (i : IVec S1216 32) : FVec F S1216x16 .f32 :=
  select (broadcastInDim S1216x16 ![0] bcast_S1216_S1216x16_0
      (Host.reduce IntOp.andi (inRange (wrapped i)) (constantI S_ 1 1#1) reducesTo_S1216x1_S1216_d1 h_S_))
    (Host.gather gather_S25x16_S1216x1_S1216x16_1_0_n_n_0_1_116 x (wrapped i))
    (broadcastInDim S1216x16 ![] bcast_S_S1216x16 (constant S_ .f32 0x7FC00000#32))

/-- The image codes as bytes. -/
theorem after_v1 (v : Valuation τ sig (Elt F)) : StableHlo.after hostOps0 v (Proc.devRef .tc main_v1) = trunci 8 (shapeCast S20480x147 (v (Proc.devRef .tc main_arg0)) shapeCasts_S20x1024x7x7x3_S20480x147) natLt_8_32 := by
  simp only [hostOps0, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The action codes as bytes. -/
theorem after_v3 (v : Valuation τ sig (Elt F)) : StableHlo.after hostOps0 v (Proc.devRef .tc main_v3) = trunci 8 (shapeCast S20480x1 (v (Proc.devRef .tc main_arg1)) shapeCasts_S20x1024_S20480x1) natLt_8_32 := by
  simp only [hostOps0, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The stacked tables. -/
theorem after_v7 (v : Valuation τ sig (Elt F)) : StableHlo.after hostOps0 v (Proc.devRef .tc main_v7) = stacked (v (Proc.devRef .tc main_arg2)) (v (Proc.devRef .tc main_arg3)) (v (Proc.devRef .tc main_arg4)) := by
  simp only [hostOps0, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The row numbers. -/
theorem after_v8 (v : Valuation τ sig (Elt F)) : StableHlo.after hostOps0 v (Proc.devRef .tc main_v8) = iotaInDim S1216 32 0 := by
  simp only [hostOps0, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The first divisor. -/
theorem after_c (v : Valuation τ sig (Elt F)) : StableHlo.after hostOps0 v (Proc.devRef .tc main_c) = constantI S_ 32 152#32 := by
  simp only [hostOps0, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The quotient of the row number by the block height. -/
theorem after_v9 (v : Valuation τ sig (Elt F)) : StableHlo.after hostOps0_1 v (Proc.devRef .tc main_v9) = floorDiv (v (Proc.devRef .tc main_v8)) (v (Proc.devRef .tc main_c)) := by
  simp only [hostOps0_1, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The second divisor. -/
theorem after_c_0 (v : Valuation τ sig (Elt F)) : StableHlo.after hostOps0_2 v (Proc.devRef .tc main_c_0) = constantI S_ 32 152#32 := by
  simp only [hostOps0_2, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The remainder of the row number. -/
theorem after_v10 (v : Valuation τ sig (Elt F)) : StableHlo.after hostOps0_3 v (Proc.devRef .tc main_v10) = floorRem (v (Proc.devRef .tc main_v8)) (v (Proc.devRef .tc main_c_0)) := by
  simp only [hostOps0_3, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- Which rows are image cells. -/
theorem after_v12 (v : Valuation τ sig (Elt F)) : StableHlo.after hostOps0_4 v (Proc.devRef .tc main_v12) = cmpi .slt (v (Proc.devRef .tc main_v10)) (broadcastInDim S1216 ![] bcast_S_S1216 (constantI S_ 32 147#32)) := by
  simp only [hostOps0_4, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The third divisor. -/
theorem after_c_2 (v : Valuation τ sig (Elt F)) : StableHlo.after hostOps0_4 v (Proc.devRef .tc main_c_2) = constantI S_ 32 3#32 := by
  simp only [hostOps0_4, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The channel of the cell. -/
theorem after_v13 (v : Valuation τ sig (Elt F)) : StableHlo.after hostOps0_5 v (Proc.devRef .tc main_v13) = floorRem (v (Proc.devRef .tc main_v10)) (v (Proc.devRef .tc main_c_2)) := by
  simp only [hostOps0_5, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The row in the stacked tables. -/
theorem after_v16 (v : Valuation τ sig (Elt F)) : StableHlo.after hostOps0_6 v (Proc.devRef .tc main_v16) = addi (muli (broadcastInDim S1216 ![] bcast_S_S1216 (constantI S_ 32 8#32)) (v (Proc.devRef .tc main_v13))) (v (Proc.devRef .tc main_v9)) := by
  simp only [hostOps0_6, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The zero row. -/
theorem after_c_4 (v : Valuation τ sig (Elt F)) : StableHlo.after hostOps0_6 v (Proc.devRef .tc main_c_4) = constantI S_ 32 24#32 := by
  simp only [hostOps0_6, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The selected row. -/
theorem after_v17 (v : Valuation τ sig (Elt F)) : StableHlo.after hostOps0_7 v (Proc.devRef .tc main_v17) = select (v (Proc.devRef .tc main_v12)) (v (Proc.devRef .tc main_v16)) (broadcastInDim S1216 ![] bcast_S_S1216 (v (Proc.devRef .tc main_c_4))) := by
  simp only [hostOps0_7, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The rows taken. -/
theorem after_v18 (v : Valuation τ sig (Elt F)) : StableHlo.after hostOps0_8 v (Proc.devRef .tc main_v18) = taken (v (Proc.devRef .tc main_v7)) (v (Proc.devRef .tc main_v17)) := by
  simp only [hostOps0_8, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The last layer weights as a row. -/
theorem after_v20 (v : Valuation τ sig (Elt F)) : StableHlo.after hostOps1 v (Proc.devRef .tc main_v20) = shapeCast S1x256 (v (Proc.devRef .tc main_arg10)) shapeCasts_S256x1_S1x256 := by
  simp only [hostOps1, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The first bias as a row. -/
theorem after_v21 (v : Valuation τ sig (Elt F)) : StableHlo.after hostOps1 v (Proc.devRef .tc main_v21) = shapeCast S1x256 (v (Proc.devRef .tc main_arg7)) shapeCasts_S256_S1x256 := by
  simp only [hostOps1, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The second bias as a row. -/
theorem after_v22 (v : Valuation τ sig (Elt F)) : StableHlo.after hostOps1 v (Proc.devRef .tc main_v22) = shapeCast S1x256 (v (Proc.devRef .tc main_arg9)) shapeCasts_S256_S1x256 := by
  simp only [hostOps1, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The last bias as a one-element array. -/
theorem after_v23 (v : Valuation τ sig (Elt F)) : StableHlo.after hostOps1 v (Proc.devRef .tc main_v23) = shapeCast S1x1 (v (Proc.devRef .tc main_arg11)) shapeCasts_S1_S1x1 := by
  simp only [hostOps1, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- The result, reshaped. -/
theorem after_v25 (v : Valuation τ sig (Elt F)) : StableHlo.after hostOps2 v (Proc.devRef .tc main_v25) = shapeCast S20x1024x1 (v (Proc.devRef .tc main_v24)) shapeCasts_S20480x1_S20x1024x1 := by
  simp only [hostOps2, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

end Cert.KernelIdeal.Val

end
-- ==== Proof.Sel.lean ====
/- Which rows of the stacked embedding tables the host code takes: table row `152·v + c` takes row `8·(c mod 3) + v`, the
   padding rows the zero row. -/
module

public import proofs.«01_k».proof.Proof.Host

@[expose] public section

set_option maxRecDepth 16384

noncomputable section

namespace Cert.KernelIdeal.Val

open Cert.KernelIdeal.Gen
open Idealize.ShloMosaic Idealize.ShloMosaic.TcCoe Idealize.ShloMosaic.Tactic

/-- The selected rows of the stacked tables, one per table row. -/
def sel : IVec S1216 32 :=
  rowOf (floorDiv (iotaInDim S1216 32 0) (constantI S_ 32 152#32)) (floorRem (iotaInDim S1216 32 0) (constantI S_ 32 152#32))
    (floorRem (floorRem (iotaInDim S1216 32 0) (constantI S_ 32 152#32)) (constantI S_ 32 3#32))

/-- The selected row of a table row. -/
theorem sel_at : ∀ r : Fin 1216, sel (ix1 r) = if r.val % 152 < 147 then BitVec.ofNat 32 (8 * (r.val % 152 % 3) + r.val / 152) else 24#32 := by
  decide +kernel

/-- The selected row is not moved by the wrapping of negative indices. -/
theorem wrapped_at : ∀ r : Fin 1216, wrapped sel (ix2 r 0) = if r.val % 152 < 147 then BitVec.ofNat 32 (8 * (r.val % 152 % 3) + r.val / 152) else 24#32 := by
  decide +kernel

/-- Every selected row is a row of the stacked tables. -/
theorem inRange_at : ∀ r : Fin 1216, inRange (wrapped sel) (ix2 r 0) = 1#1 := by
  decide +kernel

variable {F : FTy → Type} [FloatOps F]  (m : (ℓ : Loc nD τ sig) → Buf (Elt F) ℓ) (ρ : Dev nD → PrngReg) (c : Dev nD)

/-- The first call's first operand: the selected rows of the stacked tables. -/
theorem W9_v18 : W9 m ρ c (Proc.devRef .tc main_v18)
    = taken (stacked (m ((c : Thread nD τ).loc main_arg2)) (m ((c : Thread nD τ).loc main_arg3)) (m ((c : Thread nD τ).loc main_arg4))) sel := by
  have h7 : W8 m ρ c (Proc.devRef .tc main_v7) = stacked (m ((c : Thread nD τ).loc main_arg2)) (m ((c : Thread nD τ).loc main_arg3)) (m ((c : Thread nD τ).loc main_arg4)) := by
    rw [W8_of m ρ c main_v7 (by decide), W7_of m ρ c main_v7 (by decide), W6_of m ρ c main_v7 (by decide), W5_of m ρ c main_v7 (by decide),
      W4_of m ρ c main_v7 (by decide), W3_of m ρ c main_v7 (by decide), W2_of m ρ c main_v7 (by decide)]
    exact after_v7 _
  have h8 : W1 m ρ c (Proc.devRef .tc main_v8) = iotaInDim S1216 32 0 := after_v8 _
  have h8' : W3 m ρ c (Proc.devRef .tc main_v8) = iotaInDim S1216 32 0 := by
    rw [W3_of m ρ c main_v8 (by decide), W2_of m ρ c main_v8 (by decide), h8]
  have h9 : W2 m ρ c (Proc.devRef .tc main_v9) = floorDiv (iotaInDim S1216 32 0) (constantI S_ 32 152#32) :=
    (after_v9 _).trans (by rw [h8, show W1 m ρ c (Proc.devRef .tc main_c) = constantI S_ 32 152#32 from after_c _])
  have h10 : W4 m ρ c (Proc.devRef .tc main_v10) = floorRem (iotaInDim S1216 32 0) (constantI S_ 32 152#32) :=
    (after_v10 _).trans (by rw [h8', show W3 m ρ c (Proc.devRef .tc main_c_0) = constantI S_ 32 152#32 from after_c_0 _])
  have h12 := after_v12 (W4 m ρ c)
  rw [h10] at h12
  have h13 : W6 m ρ c (Proc.devRef .tc main_v13) = floorRem (floorRem (iotaInDim S1216 32 0) (constantI S_ 32 152#32)) (constantI S_ 32 3#32) :=
    (after_v13 _).trans (by rw [W5_of m ρ c main_v10 (by decide), h10, show W5 m ρ c (Proc.devRef .tc main_c_2) = constantI S_ 32 3#32 from after_c_2 _])
  have h16 := after_v16 (W6 m ρ c)
  rw [h13, W6_of m ρ c main_v9 (by decide), W5_of m ρ c main_v9 (by decide), W4_of m ρ c main_v9 (by decide), W3_of m ρ c main_v9 (by decide), h9] at h16
  have h17 : W8 m ρ c (Proc.devRef .tc main_v17) = sel :=
    (after_v17 _).trans (by
      rw [show W7 m ρ c (Proc.devRef .tc main_v16) = _ from h16, show W7 m ρ c (Proc.devRef .tc main_c_4) = constantI S_ 32 24#32 from after_c_4 _,
        W7_of m ρ c main_v12 (by decide), W6_of m ρ c main_v12 (by decide), show W5 m ρ c (Proc.devRef .tc main_v12) = _ from h12]
      rfl)
  exact (after_v18 _).trans (by rw [h7, h17])

end Cert.KernelIdeal.Val

end
-- ==== Proof.Table.lean ====
/- The first kernel's result table, read at an index over the extended reals: row `152·v + c` is the sum over the sixteen
   embedding coordinates of the selected row's coordinate times the first layer's weight row `16·c + d`, and row `1216 + a`
   the same over the action row and the last sixteen weight rows. -/
module

public import proofs.«01_k».proof.Proof.Gen.KernelIdeal.Frame
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelIdeal.Val

open Cert.KernelIdeal.Gen
open Idealize.ShloMosaic Idealize.ShloMosaic.TcCoe Idealize.ShloMosaic.Tactic

/-- A sum over sixteen terms, written out from the left. -/
theorem sum_sixteen (f : Fin 16 → EReal) :
    ∑ d, f d = f 0 + f 1 + f 2 + f 3 + f 4 + f 5 + f 6 + f 7 + f 8 + f 9 + f 10 + f 11 + f 12 + f 13 + f 14 + f 15 := by
  simp only [Fin.sum_univ_succ, Fin.sum_univ_zero, add_assoc, add_zero]
  rfl

/-- One row of a block of the table: the row's sixteen coordinates against the sixteen weight panels, from the left. -/
def blockRow (t : Fin 16 → EReal) (w : FVec Ideal S2368x256 .f32) (i : Fin 152) (j : Fin 256) : EReal :=
  t 0 * k0_pay4 (F := Ideal) w (ix2 i j) + t 1 * k0_pay5 (F := Ideal) w (ix2 i j) + t 2 * k0_pay6 (F := Ideal) w (ix2 i j) + t 3 * k0_pay7 (F := Ideal) w (ix2 i j)
    + t 4 * k0_pay8 (F := Ideal) w (ix2 i j) + t 5 * k0_pay9 (F := Ideal) w (ix2 i j) + t 6 * k0_pay10 (F := Ideal) w (ix2 i j) + t 7 * k0_pay11 (F := Ideal) w (ix2 i j)
    + t 8 * k0_pay12 (F := Ideal) w (ix2 i j) + t 9 * k0_pay13 (F := Ideal) w (ix2 i j) + t 10 * k0_pay14 (F := Ideal) w (ix2 i j) + t 11 * k0_pay15 (F := Ideal) w (ix2 i j)
    + t 12 * k0_pay16 (F := Ideal) w (ix2 i j) + t 13 * k0_pay17 (F := Ideal) w (ix2 i j) + t 14 * k0_pay18 (F := Ideal) w (ix2 i j) + t 15 * k0_pay19 (F := Ideal) w (ix2 i j)

/-- Below the padding rows, a block's row is the sum of the sixteen products with the weight rows `16·c + d`. -/
theorem blockRow_eq (t : Fin 16 → EReal) (w : FVec Ideal S2368x256 .f32) (c : Fin 147) (j : Fin 256) :
    blockRow t w ⟨c.val, by omega⟩ j = ∑ d : Fin 16, t d * w (ix2 (⟨16 * c.val + d.val, by omega⟩ : Fin 2368) j) := by
  rw [sum_sixteen]
  have hc : c.val < 147 := c.isLt
  unfold blockRow k0_pay4 k0_pay5 k0_pay6 k0_pay7 k0_pay8 k0_pay9 k0_pay10 k0_pay11 k0_pay12 k0_pay13 k0_pay14 k0_pay15 k0_pay16 k0_pay17
    k0_pay18 k0_pay19 k0_pay2
  pointwise
  simp only [Nat.mul_comm c.val 16]

/-- The action row `a` of the table, as sixteen products. -/
def actionRow (t : FVec Ideal S16x16 .f32) (w : FVec Ideal S2368x256 .f32) (a : Fin 16) (j : Fin 256) : EReal :=
  ∑ d : Fin 16, t (ix2 a d) * w (ix2 (⟨2352 + d.val, by omega⟩ : Fin 2368) j)

/-- The whole table: the eight blocks of 152 rows, then the sixteen action rows. -/
def table (x0 : FVec Ideal S1216x16 .f32) (x1 : FVec Ideal S2368x256 .f32) (x2 : FVec Ideal S16x16 .f32) (y : S1232x256.Idx) : EReal :=
  if h : (y 0).val < 1216 then blockRow (fun d => x0 (ix2 (⟨(y 0).val, h⟩ : Fin 1216) d)) x1 ⟨(y 0).val % 152, Nat.mod_lt _ (by decide)⟩ (y 1)
  else actionRow x2 x1 ⟨(y 0).val - 1216, by have := ValueIdx.idx2_lt0 y; omega⟩ (y 1)

/-- A block's store agrees with the table where it is made, if its payload does at each row and column. -/
theorem table_block (v : Nat) (hv : v < 8) (x0 : FVec Ideal S1216x16 .f32) (x1 : FVec Ideal S2368x256 .f32) (x2 : FVec Ideal S16x16 .f32)
    (P : S152x256.Idx → EReal) (inb)
    (h : ∀ (i : Fin 152) (j : Fin 256), P (ix2 i j) = blockRow (fun d => x0 (ix2 (⟨152 * v + i.val, by omega⟩ : Fin 1216) d)) x1 i j)
    (x : (Rect.unit (s := S1232x256) ![152 * v, 0] ![152, 256] inb).shape.Idx) :
    P x = table x0 x1 x2 ((Rect.unit (s := S1232x256) ![152 * v, 0] ![152, 256] inb).emb x) := by
  have hx : x = ix2 (n0 := 152) (n1 := 256) (x 0) (x 1) := eq_ix2 x
  have h0 : (x 0).val < 152 := (x 0).isLt
  have e0 : (((Rect.unit (s := S1232x256) ![152 * v, 0] ![152, 256] inb).emb x) 0).val = 152 * v + (x 0).val := by
    rw [show ((Rect.unit (s := S1232x256) ![152 * v, 0] ![152, 256] inb).emb x) 0 = ((Rect.unit (s := S1232x256) ![152 * v, 0] ![152, 256] inb).idx x) 0 from rfl,
      Rect.idx_unit_val]; rfl
  have e1 : (((Rect.unit (s := S1232x256) ![152 * v, 0] ![152, 256] inb).emb x) 1) = x 1 := by
    apply Fin.ext
    rw [show ((Rect.unit (s := S1232x256) ![152 * v, 0] ![152, 256] inb).emb x) 1 = ((Rect.unit (s := S1232x256) ![152 * v, 0] ![152, 256] inb).idx x) 1 from rfl,
      Rect.idx_unit_val]; exact Nat.zero_add _
  have hP : P x = P (ix2 (n0 := 152) (n1 := 256) (x 0) (x 1)) := congrArg P hx
  refine (hP.trans (h _ _)).trans ?_
  unfold table
  rw [dif_pos (by rw [e0]; omega), e1]
  have em : ((((Rect.unit (s := S1232x256) ![152 * v, 0] ![152, 256] inb).emb x) 0).val) % 152 = (x 0).val := by rw [e0]; omega
  congr 1
  · funext d; congr 2; exact Fin.ext e0.symm
  · exact Fin.ext em.symm

/-- The last store agrees with the table where it is made, if its payload does at each row and column. -/
theorem table_action (x0 : FVec Ideal S1216x16 .f32) (x1 : FVec Ideal S2368x256 .f32) (x2 : FVec Ideal S16x16 .f32)
    (P : S16x256.Idx → EReal) (inb) (h : ∀ (i : Fin 16) (j : Fin 256), P (ix2 i j) = actionRow x2 x1 i j)
    (x : (Rect.unit (s := S1232x256) ![1216, 0] ![16, 256] inb).shape.Idx) :
    P x = table x0 x1 x2 ((Rect.unit (s := S1232x256) ![1216, 0] ![16, 256] inb).emb x) := by
  have hx : x = ix2 (n0 := 16) (n1 := 256) (x 0) (x 1) := eq_ix2 x
  have h0 : (x 0).val < 16 := (x 0).isLt
  have e0 : (((Rect.unit (s := S1232x256) ![1216, 0] ![16, 256] inb).emb x) 0).val = 1216 + (x 0).val := by
    rw [show ((Rect.unit (s := S1232x256) ![1216, 0] ![16, 256] inb).emb x) 0 = ((Rect.unit (s := S1232x256) ![1216, 0] ![16, 256] inb).idx x) 0 from rfl,
      Rect.idx_unit_val]; rfl
  have e1 : (((Rect.unit (s := S1232x256) ![1216, 0] ![16, 256] inb).emb x) 1) = x 1 := by
    apply Fin.ext
    rw [show ((Rect.unit (s := S1232x256) ![1216, 0] ![16, 256] inb).emb x) 1 = ((Rect.unit (s := S1232x256) ![1216, 0] ![16, 256] inb).idx x) 1 from rfl,
      Rect.idx_unit_val]; exact Nat.zero_add _
  have hP : P x = P (ix2 (n0 := 16) (n1 := 256) (x 0) (x 1)) := congrArg P hx
  refine (hP.trans (h _ _)).trans ?_
  unfold table
  rw [dif_neg (by rw [e0]; omega), e1]
  congr 1
  exact Fin.ext (by show (x 0).val = _ - 1216; rw [e0]; omega)

variable (V : (c : Dev nD) → (b : Ref sig .tc) → Buf (Elt Ideal) ((c : Thread nD τ).loc b))

set_option maxHeartbeats 4000000 in
/-- What the first kernel leaves in its output buffer is the table of its three input blocks. -/
theorem outsAt0_eq (c : Dev nD) (t : Fin cfg0.N) (y : S1232x256.Idx) :
    outsAt0 V c t y = table (iblk0 V c 0 t) (iblk0 V c 1 t) (iblk0 V c 2 t) y := by
  unfold outsAt0 out0_A_3
  rw [View.read_writes_eq_canon _ _ _ (cover0_A_3 c _ _ _ _ _ _ _ _ _ _ _)]
  refine View.canon_apply_of_pieces (Val := Elt Ideal) (e := .bf16) (table (iblk0 V c 0 t) (iblk0 V c 1 t) (iblk0 V c 2 t)) _ ?_ y (cover0_A_3 c _ _ _ _ _ _ _ _ _ _ _ y)
  unfold kernelRun0_A
  dsimp only
  sl_unfold_words
  simp only [View.readAt_eq_ld, (hs0_0 t).read_unread, (hs0_1 t).read_unread, (hs0_2 t).read_unread]
  generalize iblk0 V c 0 t = x0
  generalize iblk0 V c 1 t = x1
  generalize iblk0 V c 2 t = x2
  have hw : ∀ inb, View.ld (Val := Elt Ideal) (e' := .f32) x1 (Rect.unit (s := S2368x256) ![0, 0] ![2368, 256] inb) = x1 := fun inb =>
    View.ld_unit_zero (S := S2368x256) (funext fun a => by fin_cases a <;> rfl) inb x1
  simp only [hw]
  clear hw
  refine List.forall_mem_cons.2 ⟨?_, List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_, fun p hp => nomatch hp⟩⟩⟩⟩⟩⟩⟩⟩⟩
  · refine table_action x0 x1 x2 _ inb_S1232x256_S16x256_1216_0 fun i j => ?_
    unfold actionRow
    rw [sum_sixteen]
    unfold k0_pay1 k0_pay56 k0_pay55 k0_pay54 k0_pay53 k0_pay52 k0_pay51 k0_pay2
    pointwise
  · refine table_block 7 (by decide) x0 x1 x2 _ inb_S1232x256_S152x256_1064_0 fun i j => ?_
    unfold blockRow k0_pay50 k0_pay49 k0_pay48 k0_pay47
    pointwise
  · refine table_block 6 (by decide) x0 x1 x2 _ inb_S1232x256_S152x256_912_0 fun i j => ?_
    unfold blockRow k0_pay46 k0_pay45 k0_pay44
    pointwise
  · refine table_block 5 (by decide) x0 x1 x2 _ inb_S1232x256_S152x256_760_0 fun i j => ?_
    unfold blockRow k0_pay43 k0_pay42 k0_pay41 k0_pay40
    pointwise
  · refine table_block 4 (by decide) x0 x1 x2 _ inb_S1232x256_S152x256_608_0 fun i j => ?_
    unfold blockRow k0_pay39 k0_pay38 k0_pay37 k0_pay36
    pointwise
  · refine table_block 3 (by decide) x0 x1 x2 _ inb_S1232x256_S152x256_456_0 fun i j => ?_
    unfold blockRow k0_pay35 k0_pay34 k0_pay33 k0_pay32
    pointwise
  · refine table_block 2 (by decide) x0 x1 x2 _ inb_S1232x256_S152x256_304_0 fun i j => ?_
    unfold blockRow k0_pay31 k0_pay30 k0_pay29 k0_pay28
    pointwise
  · refine table_block 1 (by decide) x0 x1 x2 _ inb_S1232x256_S152x256_152_0 fun i j => ?_
    unfold blockRow k0_pay27 k0_pay26 k0_pay25 k0_pay24
    pointwise
  · refine table_block 0 (by decide) x0 x1 x2 _ inb_S1232x256_S152x256_0_0 fun i j => ?_
    unfold blockRow k0_pay23 k0_pay22 k0_pay21 k0_pay20
    pointwise

end Cert.KernelIdeal.Val

end
-- ==== Proof.Spec.lean ====
/- The function both programs compute, in plain sums over the extended reals: every cell's embedding row and the action's
   row against the first layer's weights, a bias, and the later layers. -/
module

public import Idealize.ShloMosaic.PureOps.Ideal.Laws

@[expose] public section

noncomputable section

namespace Cert.Spec

open Idealize.ShloMosaic

/-- One output of a dense layer on hyperbolic tangents. -/
def dense (l w : Fin 256 → EReal) (b : EReal) : EReal := ∑ k, Ideal.tanh (l k) * w k + b

/-- The layers after the first: a hyperbolic tangent, a dense layer, a hyperbolic tangent, and the last layer's one column. -/
def tail (l : Fin 256 → EReal) (w2 : Fin 256 → Fin 256 → EReal) (b2 w3 : Fin 256 → EReal) (b3 : EReal) : EReal :=
  ∑ x, Ideal.tanh (∑ y, Ideal.tanh (l y) * w2 y x + b2 x) * w3 x + b3

/-- A coordinate of the embedding row of a code in a channel: the object, the colour and the state table. -/
def emb (o : Fin 32 → Fin 16 → EReal) (k : Fin 16 → Fin 16 → EReal) (s : Fin 8 → Fin 16 → EReal) (ch : Fin 3) (v : Fin 8)
    (d : Fin 16) : EReal :=
  if ch = 0 then o ⟨v.val, by omega⟩ d else if ch = 1 then k ⟨v.val, by omega⟩ d else s v d

/-- The channel of a cell: cells are three channels of a 7 by 7 image, the channel innermost. -/
def chan (q : Fin 147) : Fin 3 := ⟨q.val % 3, by omega⟩

/-- The first layer before its nonlinearity. -/
def first (o : Fin 32 → Fin 16 → EReal) (k : Fin 16 → Fin 16 → EReal) (s : Fin 8 → Fin 16 → EReal) (act : Fin 16 → Fin 16 → EReal)
    (w1 : Fin 2368 → Fin 256 → EReal) (b1 : Fin 256 → EReal) (c : Fin 147 → Fin 8) (a : Fin 16) (j : Fin 256) : EReal :=
  ∑ q : Fin 147, ∑ d : Fin 16, emb o k s (chan q) (c q) d * w1 ⟨16 * q.val + d.val, by omega⟩ j
    + ∑ d : Fin 16, act a d * w1 ⟨2352 + d.val, by omega⟩ j + b1 j

/-- A sum over the first layer's inputs, cell by cell and then the action. -/
theorem sum_inputs (f : Fin 2368 → EReal) :
    ∑ k, f k = ∑ q : Fin 147, ∑ d : Fin 16, f ⟨16 * q.val + d.val, by omega⟩ + ∑ d : Fin 16, f ⟨2352 + d.val, by omega⟩ := by
  rw [← Equiv.sum_comp (finCongr (show 2352 + 16 = 2368 from rfl)), Fin.sum_univ_add]
  congr 1
  rw [← Equiv.sum_comp (finCongr (show 147 * 16 = 2352 from rfl)), ← Equiv.sum_comp finProdFinEquiv, Fintype.sum_prod_type]
  refine Finset.sum_congr rfl fun q _ => Finset.sum_congr rfl fun d _ => congrArg f (Fin.ext ?_)
  show d.val + 16 * q.val = 16 * q.val + d.val
  omega

end Cert.Spec

end
-- ==== Proof.Lookup.lean ====
/- The table's rows as sums over the embedding row that a code names: row `152·v + c` for code `v` in cell `c`, row
   `1216 + a` for action `a`. -/
module

public import proofs.«01_k».proof.Proof.Sel
public import proofs.«01_k».proof.Proof.Table
public import proofs.«01_k».proof.Proof.Spec
public import Idealize.ShloMosaic.Lib.StableHlo.Predicate
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic

/-- A look-up in the stacked tables takes the row the index names. -/
theorem gather_stacked (x : FVec Ideal S25x16 .f32) (idx : IVec S1216x1 32) (r : Fin 1216) (e : Fin 16) (b : Fin 25)
    (hb : idx (ix2 r (0 : Fin 1)) = BitVec.ofNat 32 b.val) :
    Host.gather gather_S25x16_S1216x1_S1216x16_1_0_n_n_0_1_116 x idx (ix2 r e) = x (ix2 b e) := by
  unfold Host.gather
  refine congrArg x (funext fun a => Fin.ext ?_)
  show GatherDims.start gather_S25x16_S1216x1_S1216x16_1_0_n_n_0_1_116 (ix2 r e) idx a
    + GatherDims.batchCoord gather_S25x16_S1216x1_S1216x16_1_0_n_n_0_1_116 (ix2 r e) a
    + GatherDims.offCoord gather_S25x16_S1216x1_S1216x16_1_0_n_n_0_1_116 (ix2 r e) a = _
  rw [GatherDims.batchCoord_eq_zero _ _ _ List.not_mem_nil, Nat.add_zero]
  match a with
  | ⟨0, _⟩ =>
    have hsi : GatherDims.siIdx gather_S25x16_S1216x1_S1216x16_1_0_n_n_0_1_116 (ix2 r e)
        ⟨List.idxOf (0 : Fin 2) gather_S25x16_S1216x1_S1216x16_1_0_n_n_0_1_116.startIndexMap,
        List.idxOf_lt_length_iff.2 (List.mem_singleton.mpr rfl)⟩ = ix2 r 0 := by
      funext b; refine Fin.ext ?_
      match b with
      | ⟨0, _⟩ => rfl
      | ⟨1, _⟩ => rfl
    show GatherDims.start gather_S25x16_S1216x1_S1216x16_1_0_n_n_0_1_116 (ix2 r e) idx 0
      + GatherDims.offCoord gather_S25x16_S1216x1_S1216x16_1_0_n_n_0_1_116 (ix2 r e) 0 = _
    rw [GatherDims.offCoord_eq_zero _ _ _ (fun h => ((GatherDims.mem_sKept _ _).mp h).1 (List.mem_singleton.mpr rfl)), Nat.add_zero]
    unfold GatherDims.start
    rw [dif_pos (show (0 : Fin 2) ∈ gather_S25x16_S1216x1_S1216x16_1_0_n_n_0_1_116.startIndexMap from List.mem_singleton.mpr rfl), hsi, hb,
      StableHlo.Predicate.toInt_ofNat_small _ (by omega)]
    show min ((b.val : Int)).toNat (25 - 1) = b.val
    omega
  | ⟨1, _⟩ =>
    show GatherDims.start gather_S25x16_S1216x1_S1216x16_1_0_n_n_0_1_116 (ix2 r e) idx 1
      + GatherDims.offCoord gather_S25x16_S1216x1_S1216x16_1_0_n_n_0_1_116 (ix2 r e) 1 = _
    unfold GatherDims.start
    rw [dif_neg (show (1 : Fin 2) ∉ gather_S25x16_S1216x1_S1216x16_1_0_n_n_0_1_116.startIndexMap by decide), Nat.zero_add]
    rfl

/-- A taken row is the stacked tables' row that the selection names. -/
theorem taken_at (x : FVec Ideal S25x16 .f32) (r : Fin 1216) (d : Fin 16) (b : Fin 25)
    (hb : wrapped sel (ix2 r (0 : Fin 1)) = BitVec.ofNat 32 b.val) : taken x sel (ix2 r d) = x (ix2 b d) := by
  unfold taken
  pointwise
  rw [Finset.univ_unique, Finset.fold_singleton, show (default : Fin 1) = 0 from rfl, inRange_at, gather_stacked x _ r d b hb]
  rfl

/-- The stacked tables' row of an object code. -/
theorem stacked_object (o : FVec Ideal S32x16 .f32) (k : FVec Ideal S16x16 .f32) (s : FVec Ideal S8x16 .f32) (v : Fin 8) (d : Fin 16) :
    stacked o k s (ix2 (⟨v.val, by omega⟩ : Fin 25) d) = o (ix2 (⟨v.val, by omega⟩ : Fin 32) d) := by
  unfold stacked
  pointwise

/-- The stacked tables' row of a colour code. -/
theorem stacked_colour (o : FVec Ideal S32x16 .f32) (k : FVec Ideal S16x16 .f32) (s : FVec Ideal S8x16 .f32) (v : Fin 8) (d : Fin 16) :
    stacked o k s (ix2 (⟨8 + v.val, by omega⟩ : Fin 25) d) = k (ix2 (⟨v.val, by omega⟩ : Fin 16) d) := by
  unfold stacked
  pointwise

/-- The stacked tables' row of a state code. -/
theorem stacked_state (o : FVec Ideal S32x16 .f32) (k : FVec Ideal S16x16 .f32) (s : FVec Ideal S8x16 .f32) (v : Fin 8) (d : Fin 16) :
    stacked o k s (ix2 (⟨16 + v.val, by omega⟩ : Fin 25) d) = s (ix2 v d) := by
  unfold stacked
  pointwise
  rw [dif_neg (by omega), dif_neg (by omega), dif_pos (by omega)]
  exact congrArg (fun z => s (ix2 z d)) (Fin.ext (by simp only []; omega))

/-- The stacked tables' row of a code in a channel. -/
theorem stacked_at (o : FVec Ideal S32x16 .f32) (k : FVec Ideal S16x16 .f32) (s : FVec Ideal S8x16 .f32) (ch : Fin 3) (v : Fin 8) (d : Fin 16) :
    stacked o k s (ix2 (⟨8 * ch.val + v.val, by omega⟩ : Fin 25) d)
      = Spec.emb (fun v e => o (ix2 v e)) (fun v e => k (ix2 v e)) (fun v e => s (ix2 v e)) ch v d := by
  unfold Spec.emb
  obtain rfl | rfl | rfl : ch = 0 ∨ ch = 1 ∨ ch = 2 := by omega
  · rw [if_pos rfl]
    exact (congrArg (fun z => stacked o k s (ix2 z d)) (Fin.ext (by simp))).trans (stacked_object o k s v d)
  · rw [if_neg (by decide), if_pos rfl]
    exact (congrArg (fun z => stacked o k s (ix2 z d)) (Fin.ext (by simp))).trans (stacked_colour o k s v d)
  · rw [if_neg (by decide), if_neg (by decide)]
    exact (congrArg (fun z => stacked o k s (ix2 z d)) (Fin.ext (by simp))).trans (stacked_state o k s v d)

/-- The row taken for code `v` in cell `q` is the code's embedding row. -/
theorem taken_cell (o : FVec Ideal S32x16 .f32) (k : FVec Ideal S16x16 .f32) (s : FVec Ideal S8x16 .f32) (q : Fin 147) (v : Fin 8) (d : Fin 16) :
    taken (stacked o k s) sel (ix2 (⟨152 * v.val + q.val, by omega⟩ : Fin 1216) d)
      = Spec.emb (fun v e => o (ix2 v e)) (fun v e => k (ix2 v e)) (fun v e => s (ix2 v e)) (Spec.chan q) v d := by
  rw [← stacked_at]
  refine taken_at _ _ d _ ?_
  rw [wrapped_at]
  have h1 : (152 * v.val + q.val) % 152 = q.val := by omega
  have h2 : (152 * v.val + q.val) / 152 = v.val := by omega
  simp only [h1, h2]
  rw [if_pos q.isLt]
  rfl

variable (o : FVec Ideal S32x16 .f32) (k : FVec Ideal S16x16 .f32) (s : FVec Ideal S8x16 .f32) (w : FVec Ideal S2368x256 .f32)
  (act : FVec Ideal S16x16 .f32)

/-- The table's row of code `v` in cell `q`. -/
theorem table_cell (q : Fin 147) (v : Fin 8) (j : Fin 256) :
    table (taken (stacked o k s) sel) w act (ix2 (⟨152 * v.val + q.val, by omega⟩ : Fin 1232) j)
      = ∑ d : Fin 16, Spec.emb (fun v e => o (ix2 v e)) (fun v e => k (ix2 v e)) (fun v e => s (ix2 v e)) (Spec.chan q) v d
          * w (ix2 (⟨16 * q.val + d.val, by omega⟩ : Fin 2368) j) := by
  have h : 152 * v.val + q.val < 1216 := by omega
  have hm : (⟨(152 * v.val + q.val) % 152, Nat.mod_lt _ (by decide)⟩ : Fin 152) = ⟨q.val, by omega⟩ := Fin.ext (by simp only []; omega)
  refine (dif_pos h).trans ?_
  refine (congrArg (fun z => blockRow _ w z j) hm).trans ?_
  rw [blockRow_eq]
  exact Finset.sum_congr rfl fun d _ => congrArg (· * _) (taken_cell o k s q v d)

/-- The table's row of action `a`. -/
theorem table_of_action (x : FVec Ideal S1216x16 .f32) (a : Fin 16) (j : Fin 256) :
    table x w act (ix2 (⟨1216 + a.val, by omega⟩ : Fin 1232) j)
      = ∑ d : Fin 16, act (ix2 a d) * w (ix2 (⟨2352 + d.val, by omega⟩ : Fin 2368) j) := by
  have h : ¬ 1216 + a.val < 1216 := by omega
  have hm : (⟨1216 + a.val - 1216, by omega⟩ : Fin 16) = a := Fin.ext (by simp only []; omega)
  refine (dif_neg h).trans ?_
  exact congrArg (fun z => actionRow act w z j) hm

end Cert.KernelIdeal.Val

end
-- ==== Proof.Block.lean ====
/- The second kernel's block, read at a row over the extended reals: with image codes below eight and an action below
   sixteen, every indicator product keeps one row of the table, so the first layer's sum is one table row per image cell
   plus the action's row; the two later layers are the plain ones. -/
module

public import proofs.«01_k».proof.Proof.Gen.KernelIdeal.Frame
public import proofs.«01_k».proof.Proof.Spec
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelIdeal.Val

open Cert.KernelIdeal.Gen
open Idealize.ShloMosaic Idealize.ShloMosaic.TcCoe Idealize.ShloMosaic.Tactic

/-- The indicator of an equation, as the kernel makes it from the compare's bit, is one or zero. -/
theorem indicator_eq (p : Prop) [Decidable p] :
    (FloatOps.sitofp .f32 (BitVec.setWidth 32 (BitVec.ofBool (decide p))) : Ideal .f32) = if p then (1 : EReal) else 0 := by
  show (((BitVec.setWidth 32 (BitVec.ofBool (decide p))).toInt : ℝ) : EReal) = _
  by_cases h : p
  · simp [h]
  · simp [h]

/-- The float constant two. -/
theorem lit_two : Ideal.ofBits .f32 1073741824#32 = ((2 : ℝ) : EReal) := by
  simp [Ideal.ofBits, Ideal.ieee, -EReal.coe_mul]; norm_num
/-- The float constant three. -/
theorem lit_three : Ideal.ofBits .f32 1077936128#32 = ((3 : ℝ) : EReal) := by
  simp [Ideal.ofBits, Ideal.ieee, -EReal.coe_mul]; norm_num
/-- The float constant four. -/
theorem lit_four : Ideal.ofBits .f32 1082130432#32 = ((4 : ℝ) : EReal) := by
  simp [Ideal.ofBits, Ideal.ieee, -EReal.coe_mul]; norm_num
/-- The float constant five. -/
theorem lit_five : Ideal.ofBits .f32 1084227584#32 = ((5 : ℝ) : EReal) := by
  simp [Ideal.ofBits, Ideal.ieee, -EReal.coe_mul]; norm_num
/-- The float constant six. -/
theorem lit_six : Ideal.ofBits .f32 1086324736#32 = ((6 : ℝ) : EReal) := by
  simp [Ideal.ofBits, Ideal.ieee, -EReal.coe_mul]; norm_num
/-- The float constant seven. -/
theorem lit_seven : Ideal.ofBits .f32 1088421888#32 = ((7 : ℝ) : EReal) := by
  simp [Ideal.ofBits, Ideal.ieee, -EReal.coe_mul]; norm_num

/-- The converted value of a word with a known integer. -/
theorem sitofp_nat {w : Nat} (b : BitVec w) (n : Nat) (h : b.toInt = n) :
    (FloatOps.sitofp .f32 b : Ideal .f32) = (((n : ℝ)) : EReal) := by
  show ((b.toInt : ℝ) : EReal) = _
  rw [h]; simp

/-- The word of a column number below sixteen. -/
theorem ofNat_toInt (d : Fin 16) : (BitVec.ofNat 32 d.val).toInt = d.val := by
  fin_cases d <;> rfl

/-- Among eight rows weighted by the indicators of the code, the code's row is what remains. -/
theorem pick_eight (k : Fin 8) (p : Fin 8 → EReal) (x : EReal) (hx : x = (((k.val : ℕ) : ℝ) : EReal)) :
    (if x = 0 then (1 : EReal) else 0) * p 0 + (if x = 1 then (1 : EReal) else 0) * p 1
      + (if x = ((2 : ℝ) : EReal) then (1 : EReal) else 0) * p 2 + (if x = ((3 : ℝ) : EReal) then (1 : EReal) else 0) * p 3
      + (if x = ((4 : ℝ) : EReal) then (1 : EReal) else 0) * p 4 + (if x = ((5 : ℝ) : EReal) then (1 : EReal) else 0) * p 5
      + (if x = ((6 : ℝ) : EReal) then (1 : EReal) else 0) * p 6 + (if x = ((7 : ℝ) : EReal) then (1 : EReal) else 0) * p 7
      = p k := by
  subst hx
  rw [show (0 : EReal) = ((0 : ℝ) : EReal) from rfl, show (1 : EReal) = ((1 : ℝ) : EReal) from rfl]
  simp only [EReal.coe_eq_coe_iff]
  fin_cases k <;> norm_num <;> rfl

/-- A row of the second call's result, from the table, the later layers and the row's codes. -/
def rowOut (p : FVec Ideal S1232x256 .bf16) (w2 : FVec Ideal S256x256 .f32) (w3 b1 b2 : FVec Ideal S1x256 .f32)
    (b3 : FVec Ideal S1x1 .f32) (k : Fin 147 → Fin 8) (a : Fin 16) : EReal :=
  Spec.tail (fun j => ∑ c : Fin 147, p (ix2 (⟨152 * (k c).val + c.val, by omega⟩ : Fin 1232) j)
      + p (ix2 (⟨1216 + a.val, by omega⟩ : Fin 1232) j) + b1 (ix2 0 j))
    (fun y x => w2 (ix2 y x)) (fun x => b2 (ix2 0 x)) (fun x => w3 (ix2 0 x)) (b3 (ix2 0 0))

set_option maxHeartbeats 1000000 in
/-- A row of the block the second kernel leaves, under known codes. -/
theorem out1_8_row (x0 : Vec Ideal S2048x147 .i8) (x1 : Vec Ideal S2048x1 .i8) (x2 : Vec Ideal S1232x256 .bf16)
    (x3 : Vec Ideal S256x256 .f32) (x4 x5 x6 : Vec Ideal S1x256 .f32) (x7 : Vec Ideal S1x1 .f32) (i : Fin 2048)
    (k : Fin 147 → Fin 8) (a : Fin 16) (hk : ∀ c, (x0 (ix2 i c)).toInt = (k c).val) (ha : (x1 (ix2 i 0)).toInt = a.val) :
    out1_8 x0 x1 x2 x3 x4 x5 x6 x7 (ix2 i 0) = rowOut x2 x3 x4 x5 x6 x7 k a := by
  have hz : (![0, 0] : Fin 2 → Nat) = fun _ => 0 := funext fun a => by fin_cases a <;> rfl
  unfold out1_8
  rw [View.canon_unit_zero hz]
  unfold k1_pay1 rowOut Spec.tail
  pointwise
  congr 1
  refine Finset.sum_congr rfl fun x _ => ?_
  congr 3
  refine Finset.sum_congr rfl fun y _ => ?_
  congr 3
  unfold k1_pay5 k1_pay6 k1_pay4 k1_pay3 k1_pay2
  pointwise
  rw [← Finset.sum_add_distrib, ← Finset.sum_add_distrib, ← Finset.sum_add_distrib, ← Finset.sum_add_distrib,
    ← Finset.sum_add_distrib, ← Finset.sum_add_distrib, ← Finset.sum_add_distrib]
  congr 1
  · refine Finset.sum_congr rfl fun c _ => ?_
    simp only [indicator_eq, lit_two, lit_three, lit_four, lit_five, lit_six, lit_seven]
    have e0 : (⟨c.val, by omega⟩ : Fin 1232) = ⟨152 * ((0 : Fin 8)).val + c.val, by simp; omega⟩ := Fin.ext (by simp)
    rw [e0]
    exact pick_eight (k c) (fun v => x2 (ix2 (⟨152 * v.val + c.val, by omega⟩ : Fin 1232) y)) _ (sitofp_nat _ _ (hk c))
  · rw [Finset.sum_eq_single a]
    · rw [indicator_eq, if_pos, one_mul]
      rw [sitofp_nat _ _ ha, sitofp_nat _ a.val (ofNat_toInt a)]
    · intro d _ hd
      rw [indicator_eq, if_neg, zero_mul]
      rw [sitofp_nat _ _ ha, sitofp_nat _ d.val (ofNat_toInt d)]
      intro h
      exact hd (Fin.ext (Nat.cast_injective (EReal.coe_injective h)).symm)
    · exact fun h => absurd (Finset.mem_univ _) h

end Cert.KernelIdeal.Val

end
-- ==== Proof.Blocks.lean ====
/- The blocks of the two kernel calls' input windows, as parts of their arrays: whole arrays, except the second call's image
   and action blocks, which are 2048 rows each. -/
module

public import proofs.«01_k».proof.Proof.Gen.KernelIdeal.Frame
public import Idealize.ShloMosaic.Lib.Pointwise
public import Idealize.ShloMosaic.Lib.Pipeline.ValueKit.Geometry

@[expose] public section

set_option maxRecDepth 16384

noncomputable section

namespace Cert.KernelIdeal.Val

open Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

/-- The first call's first input block is its whole array. -/
theorem iblk0_0 (t : Fin cfg0.N) : iblk0 V c 0 t = V c main_v18 := by
  funext y
  have e : ∀ t : Fin cfg0.N, win0_0.index t = ![0, 0] := (by decide +kernel : ∀ t : Fin grid0.N, _)
  blk_simp [iblk0]
  congr 1
  blk_ext [e]

/-- The first call's second input block is its whole array. -/
theorem iblk0_1 (t : Fin cfg0.N) : iblk0 V c 1 t = V c main_arg6 := by
  funext y
  have e : ∀ t : Fin cfg0.N, win0_1.index t = ![0, 0] := (by decide +kernel : ∀ t : Fin grid0.N, _)
  blk_simp [iblk0]
  congr 1
  blk_ext [e]

/-- The first call's third input block is its whole array. -/
theorem iblk0_2 (t : Fin cfg0.N) : iblk0 V c 2 t = V c main_arg5 := by
  funext y
  have e : ∀ t : Fin cfg0.N, win0_2.index t = ![0, 0] := (by decide +kernel : ∀ t : Fin grid0.N, _)
  blk_simp [iblk0]
  congr 1
  blk_ext [e]

/-- The second call's table block is the whole table. -/
theorem iblk1_2 (t : Fin cfg1.N) : iblk1 V c 2 t = V c main_v19 := by
  funext y
  have e : ∀ t : Fin cfg1.N, win1_2.index t = ![0, 0] := (by decide +kernel : ∀ t : Fin grid1.N, _)
  blk_simp [iblk1]
  congr 1
  blk_ext [e]

/-- The second call's second-layer weights block is the whole array. -/
theorem iblk1_3 (t : Fin cfg1.N) : iblk1 V c 3 t = V c main_arg8 := by
  funext y
  have e : ∀ t : Fin cfg1.N, win1_3.index t = ![0, 0] := (by decide +kernel : ∀ t : Fin grid1.N, _)
  blk_simp [iblk1]
  congr 1
  blk_ext [e]

/-- The second call's last-layer weights block is the whole array. -/
theorem iblk1_4 (t : Fin cfg1.N) : iblk1 V c 4 t = V c main_v20 := by
  funext y
  have e : ∀ t : Fin cfg1.N, win1_4.index t = ![0, 0] := (by decide +kernel : ∀ t : Fin grid1.N, _)
  blk_simp [iblk1]
  congr 1
  blk_ext [e]

/-- The second call's first-layer bias block is the whole array. -/
theorem iblk1_5 (t : Fin cfg1.N) : iblk1 V c 5 t = V c main_v21 := by
  funext y
  have e : ∀ t : Fin cfg1.N, win1_5.index t = ![0, 0] := (by decide +kernel : ∀ t : Fin grid1.N, _)
  blk_simp [iblk1]
  congr 1
  blk_ext [e]

/-- The second call's second-layer bias block is the whole array. -/
theorem iblk1_6 (t : Fin cfg1.N) : iblk1 V c 6 t = V c main_v22 := by
  funext y
  have e : ∀ t : Fin cfg1.N, win1_6.index t = ![0, 0] := (by decide +kernel : ∀ t : Fin grid1.N, _)
  blk_simp [iblk1]
  congr 1
  blk_ext [e]

/-- The second call's last-layer bias block is the whole array. -/
theorem iblk1_7 (t : Fin cfg1.N) : iblk1 V c 7 t = V c main_v23 := by
  funext y
  have e : ∀ t : Fin cfg1.N, win1_7.index t = ![0, 0] := (by decide +kernel : ∀ t : Fin grid1.N, _)
  blk_simp [iblk1]
  congr 1
  blk_ext [e]

/-- A row of point `t`'s block is below the array's end. -/
theorem row_lt (t : Fin cfg1.N) (i : Fin 2048) : t.val * 2048 + i.val < 20480 := by
  have h : t.val < 10 := N_1 ▸ t.isLt
  omega

/-- The second call's image block at a row and a cell. -/
theorem iblk1_0 (t : Fin cfg1.N) (i : Fin 2048) (k : Fin 147) :
    iblk1 V c 0 t (ix2 i k) = V c main_v1 (ix2 (⟨t.val * 2048 + i.val, row_lt t i⟩ : Fin 20480) k) := by
  have e : ∀ t : Fin cfg1.N, win1_0.index t = ![t.val, 0] := (by decide +kernel : ∀ t : Fin grid1.N, _)
  blk_simp [iblk1]
  congr 1
  blk_ext [e]

/-- The second call's action block at a row. -/
theorem iblk1_1 (t : Fin cfg1.N) (i : Fin 2048) :
    iblk1 V c 1 t (ix2 i 0) = V c main_v3 (ix2 (⟨t.val * 2048 + i.val, row_lt t i⟩ : Fin 20480) 0) := by
  have e : ∀ t : Fin cfg1.N, win1_1.index t = ![t.val, 0] := (by decide +kernel : ∀ t : Fin grid1.N, _)
  blk_simp [iblk1]
  congr 1
  blk_ext [e]

end Cert.KernelIdeal.Val

end
-- ==== Proof.Arrays.lean ====
/- The two kernel calls' result arrays over the extended reals: the first one's is the table of its argument arrays; the
   second one's, at codes in range, is at every row the layers after the first over the table rows the codes name. -/
module

public import proofs.«01_k».proof.Proof.Table
public import proofs.«01_k».proof.Proof.Block
public import proofs.«01_k».proof.Proof.Blocks
public import Idealize.ShloMosaic.Lib.Pipeline.ValueKit.Geometry

@[expose] public section

set_option maxRecDepth 16384

noncomputable section

namespace Cert.KernelIdeal.Val

open Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

/-- The first call's result array is the table of its argument arrays. -/
theorem first_array : (dat0 V c).arrAt 3 cfg0.N = table (V c main_v18) (V c main_arg6) (V c main_arg5) := by
  refine (dat0 V c).arrAt_eq_of_covers 3 _ (by decide +kernel) fun t hf y => ?_
  have e : ∀ t : Fin cfg0.N, win0_3.index t = ![0, 0] := (by decide +kernel : ∀ t : Fin grid0.N, _)
  blk_simp
  rw [after0_3]
  refine (outsAt0_eq V c t _).trans ?_
  rw [iblk0_0, iblk0_1, iblk0_2]
  congr 1
  blk_ext [e]

/-- The second call's result array at codes in range. -/
theorem second_array (k : Fin 20480 → Fin 147 → Fin 8) (a : Fin 20480 → Fin 16)
    (hk : ∀ r q, BitVec.toInt (V c main_v1 (ix2 r q) : BitVec 8) = (k r q).val)
    (ha : ∀ r, BitVec.toInt (V c main_v3 (ix2 r 0) : BitVec 8) = (a r).val) :
    (dat1 V c).arrAt 8 cfg1.N = fun y : S20480x1.Idx =>
      rowOut (V c main_v19) (V c main_arg8) (V c main_v20) (V c main_v21) (V c main_v22) (V c main_v23) (k (y 0)) (a (y 0)) := by
  refine (dat1 V c).arrAt_eq_of_covers 8 _ (by decide +kernel) fun t hf y => ?_
  have e : ∀ t : Fin cfg1.N, win1_8.index t = ![t.val, 0] := (by decide +kernel : ∀ t : Fin grid1.N, _)
  obtain ⟨i, z, rfl⟩ : ∃ (i : Fin 2048) (z : Fin 1), y = ix2 i z := ⟨_, _, eq_ix2 y⟩
  obtain rfl : z = 0 := Subsingleton.elim _ _
  blk_simp
  rw [after1_8]
  have hrow : (win1_8.blk t).view.emb (ix2 i 0) 0 = (⟨t.val * 2048 + i.val, row_lt t i⟩ : Fin 20480) := by
    apply Fin.ext
    blk_simp [e]
  refine (out1_8_row _ _ _ _ _ _ _ _ i (k ⟨t.val * 2048 + i.val, row_lt t i⟩) (a ⟨t.val * 2048 + i.val, row_lt t i⟩)
    (fun q => ?_) ?_).trans ?_
  · rw [iblk1_0]; exact hk _ q
  · rw [iblk1_1]; exact ha _
  · rw [iblk1_2, iblk1_3, iblk1_4, iblk1_5, iblk1_6, iblk1_7, hrow]

end Cert.KernelIdeal.Val

end
-- ==== Proof.KernelValue.lean ====
/- The kernel program's result over the extended reals at codes in range: at every frame the plain layers over the embedding
   rows the frame's codes name. -/
module

public import proofs.«01_k».proof.Proof.Lookup
public import proofs.«01_k».proof.Proof.Arrays

@[expose] public section

set_option maxRecDepth 16384

noncomputable section

namespace Cert.KernelIdeal.Val

open Cert.KernelIdeal.Gen
open Idealize.ShloMosaic Idealize.ShloMosaic.TcCoe Idealize.ShloMosaic.Tactic

/-- A code below eight, cut to a byte, is itself. -/
theorem byte_cell (x : BitVec 32) (k : Fin 8) (h : x = BitVec.ofNat 32 k.val) : (BitVec.setWidth 8 x).toInt = (k.val : Int) := by
  subst h
  fin_cases k <;> rfl

/-- A code below sixteen, cut to a byte, is itself. -/
theorem byte_action (x : BitVec 32) (a : Fin 16) (h : x = BitVec.ofNat 32 a.val) : (BitVec.setWidth 8 x).toInt = (a.val : Int) := by
  subst h
  fin_cases a <;> rfl

/-- The image codes as bytes, at a frame and a cell. -/
theorem bytes_cell (x : IVec S20x1024x7x7x3 32) (r : Fin 20480) (q : Fin 147) :
    trunci 8 (shapeCast S20480x147 x shapeCasts_S20x1024x7x7x3_S20480x147) natLt_8_32 (ix2 r q)
      = BitVec.setWidth 8 (x (ix5 (⟨r.val / 1024, by omega⟩ : Fin 20) (⟨r.val % 1024, by omega⟩ : Fin 1024)
          (⟨q.val / 21, by omega⟩ : Fin 7) (⟨q.val / 3 % 7, by omega⟩ : Fin 7) (⟨q.val % 3, by omega⟩ : Fin 3))) := by
  pointwise

/-- The action codes as bytes, at a frame. -/
theorem bytes_action (x : IVec S20x1024 32) (r : Fin 20480) :
    trunci 8 (shapeCast S20480x1 x shapeCasts_S20x1024_S20480x1) natLt_8_32 (ix2 r (0 : Fin 1))
      = BitVec.setWidth 8 (x (ix2 (⟨r.val / 1024, by omega⟩ : Fin 20) (⟨r.val % 1024, by omega⟩ : Fin 1024))) := by
  pointwise

/-- The last layer's weights as a row. -/
theorem row_weights (x : FVec Ideal S256x1 .f32) (j : Fin 256) :
    shapeCast S1x256 x shapeCasts_S256x1_S1x256 (ix2 (0 : Fin 1) j) = x (ix2 j (0 : Fin 1)) := by
  pointwise

/-- A bias as a row. -/
theorem row_bias (x : FVec Ideal S256 .f32) (j : Fin 256) :
    shapeCast S1x256 x shapeCasts_S256_S1x256 (ix2 (0 : Fin 1) j) = x (ix1 j) := by
  pointwise

/-- The last bias as an array of one element. -/
theorem one_bias (x : FVec Ideal S1 .f32) :
    shapeCast S1x1 x shapeCasts_S1_S1x1 (ix2 (0 : Fin 1) (0 : Fin 1)) = x (ix1 (0 : Fin 1)) := by
  pointwise

/-- The result, a frame per batch entry and step. -/
theorem frames_at (x : FVec Ideal S20480x1 .f32) (b : Fin 20) (s : Fin 1024) :
    shapeCast S20x1024x1 x shapeCasts_S20480x1_S20x1024x1 (ix3 b s (0 : Fin 1))
      = x (ix2 (⟨b.val * 1024 + s.val, by omega⟩ : Fin 20480) (0 : Fin 1)) := by
  pointwise

section Row

variable (o : FVec Ideal S32x16 .f32) (k : FVec Ideal S16x16 .f32) (s : FVec Ideal S8x16 .f32) (act : FVec Ideal S16x16 .f32)
  (w1 : FVec Ideal S2368x256 .f32) (b1 : FVec Ideal S256 .f32) (w2 : FVec Ideal S256x256 .f32) (b2 : FVec Ideal S256 .f32)
  (w3 : FVec Ideal S256x1 .f32) (b3 : FVec Ideal S1 .f32)

/-- The second call's row over the first call's table is the plain layers over the embedding rows. -/
theorem rowOut_eq (c : Fin 147 → Fin 8) (a : Fin 16) :
    rowOut (table (taken (stacked o k s) sel) w1 act) w2 (shapeCast S1x256 w3 shapeCasts_S256x1_S1x256)
        (shapeCast S1x256 b1 shapeCasts_S256_S1x256) (shapeCast S1x256 b2 shapeCasts_S256_S1x256) (shapeCast S1x1 b3 shapeCasts_S1_S1x1) c a
      = Spec.tail (Spec.first (fun v e => o (ix2 v e)) (fun v e => k (ix2 v e)) (fun v e => s (ix2 v e)) (fun v e => act (ix2 v e))
          (fun i j => w1 (ix2 i j)) (fun j => b1 (ix1 j)) c a)
          (fun i j => w2 (ix2 i j)) (fun j => b2 (ix1 j)) (fun j => w3 (ix2 j (0 : Fin 1))) (b3 (ix1 (0 : Fin 1))) := by
  unfold rowOut
  simp only [table_cell, table_of_action, row_weights, row_bias, one_bias]
  rfl

end Row

variable (m : (ℓ : Loc nD τ sig) → Buf (Elt Ideal) ℓ) (ρ : Dev nD → PrngReg) (c : Dev nD)

/-- The table as the second call finds it. -/
theorem W11_v19 : W11 m ρ c (Proc.devRef .tc main_v19)
    = table (taken (stacked (m ((c : Thread nD τ).loc main_arg2)) (m ((c : Thread nD τ).loc main_arg3)) (m ((c : Thread nD τ).loc main_arg4))) sel)
        (m ((c : Thread nD τ).loc main_arg6)) (m ((c : Thread nD τ).loc main_arg5)) := by
  rw [W11_of m ρ c main_v19 (by decide)]
  refine (W10_arr m ρ c 3).trans ((first_array (V9 m ρ) c).trans ?_)
  rw [show V9 m ρ c main_v18 = _ from W9_v18 m ρ c, show V9 m ρ c main_arg6 = _ from W9_args m ρ c main_arg6 (by decide),
    show V9 m ρ c main_arg5 = _ from W9_args m ρ c main_arg5 (by decide)]

/-- The image bytes as the second call finds them. -/
theorem W11_v1 : W11 m ρ c (Proc.devRef .tc main_v1)
    = trunci 8 (shapeCast S20480x147 (m ((c : Thread nD τ).loc main_arg0)) shapeCasts_S20x1024x7x7x3_S20480x147) natLt_8_32 := by
  rw [W11_of m ρ c main_v1 (by decide), W10_of m ρ c main_v1 (by decide), W9_of m ρ c main_v1 (by decide), W8_of m ρ c main_v1 (by decide),
    W7_of m ρ c main_v1 (by decide), W6_of m ρ c main_v1 (by decide), W5_of m ρ c main_v1 (by decide), W4_of m ρ c main_v1 (by decide),
    W3_of m ρ c main_v1 (by decide), W2_of m ρ c main_v1 (by decide)]
  exact after_v1 _

/-- The action bytes as the second call finds them. -/
theorem W11_v3 : W11 m ρ c (Proc.devRef .tc main_v3)
    = trunci 8 (shapeCast S20480x1 (m ((c : Thread nD τ).loc main_arg1)) shapeCasts_S20x1024_S20480x1) natLt_8_32 := by
  rw [W11_of m ρ c main_v3 (by decide), W10_of m ρ c main_v3 (by decide), W9_of m ρ c main_v3 (by decide), W8_of m ρ c main_v3 (by decide),
    W7_of m ρ c main_v3 (by decide), W6_of m ρ c main_v3 (by decide), W5_of m ρ c main_v3 (by decide), W4_of m ρ c main_v3 (by decide),
    W3_of m ρ c main_v3 (by decide), W2_of m ρ c main_v3 (by decide)]
  exact after_v3 _

/-- The last layer's weights as the second call finds them. -/
theorem W11_v20 : W11 m ρ c (Proc.devRef .tc main_v20) = shapeCast S1x256 (m ((c : Thread nD τ).loc main_arg10)) shapeCasts_S256x1_S1x256 :=
  (after_v20 _).trans (by rw [W10_args m ρ c main_arg10 (by decide)])

/-- The first bias as the second call finds it. -/
theorem W11_v21 : W11 m ρ c (Proc.devRef .tc main_v21) = shapeCast S1x256 (m ((c : Thread nD τ).loc main_arg7)) shapeCasts_S256_S1x256 :=
  (after_v21 _).trans (by rw [W10_args m ρ c main_arg7 (by decide)])

/-- The second bias as the second call finds it. -/
theorem W11_v22 : W11 m ρ c (Proc.devRef .tc main_v22) = shapeCast S1x256 (m ((c : Thread nD τ).loc main_arg9)) shapeCasts_S256_S1x256 :=
  (after_v22 _).trans (by rw [W10_args m ρ c main_arg9 (by decide)])

/-- The last bias as the second call finds it. -/
theorem W11_v23 : W11 m ρ c (Proc.devRef .tc main_v23) = shapeCast S1x1 (m ((c : Thread nD τ).loc main_arg11)) shapeCasts_S1_S1x1 :=
  (after_v23 _).trans (by rw [W10_args m ρ c main_arg11 (by decide)])

/-- The second call's result at codes in range. -/
theorem W12_v24 (k : Fin 20480 → Fin 147 → Fin 8) (a : Fin 20480 → Fin 16)
    (hk : ∀ (r : Fin 20480) (q : Fin 147), (m ((c : Thread nD τ).loc main_arg0) : IVec S20x1024x7x7x3 32)
      (ix5 (⟨r.val / 1024, by omega⟩ : Fin 20) (⟨r.val % 1024, by omega⟩ : Fin 1024)
        (⟨q.val / 21, by omega⟩ : Fin 7) (⟨q.val / 3 % 7, by omega⟩ : Fin 7) (⟨q.val % 3, by omega⟩ : Fin 3)) = BitVec.ofNat 32 (k r q).val)
    (ha : ∀ r : Fin 20480, (m ((c : Thread nD τ).loc main_arg1) : IVec S20x1024 32)
      (ix2 (⟨r.val / 1024, by omega⟩ : Fin 20) (⟨r.val % 1024, by omega⟩ : Fin 1024)) = BitVec.ofNat 32 (a r).val) :
    W12 m ρ c (Proc.devRef .tc main_v24) = fun y : S20480x1.Idx =>
      rowOut (table (taken (stacked (m ((c : Thread nD τ).loc main_arg2)) (m ((c : Thread nD τ).loc main_arg3)) (m ((c : Thread nD τ).loc main_arg4))) sel)
          (m ((c : Thread nD τ).loc main_arg6)) (m ((c : Thread nD τ).loc main_arg5)))
        (m ((c : Thread nD τ).loc main_arg8)) (shapeCast S1x256 (m ((c : Thread nD τ).loc main_arg10)) shapeCasts_S256x1_S1x256)
        (shapeCast S1x256 (m ((c : Thread nD τ).loc main_arg7)) shapeCasts_S256_S1x256)
        (shapeCast S1x256 (m ((c : Thread nD τ).loc main_arg9)) shapeCasts_S256_S1x256)
        (shapeCast S1x1 (m ((c : Thread nD τ).loc main_arg11)) shapeCasts_S1_S1x1) (k (y 0)) (a (y 0)) := by
  refine (W12_arr m ρ c 8).trans ((second_array (V11 m ρ) c k a (fun r q => ?_) (fun r => ?_)).trans ?_)
  · rw [show V11 m ρ c main_v1 = _ from W11_v1 m ρ c]
    exact (congrArg BitVec.toInt (bytes_cell _ r q)).trans (byte_cell _ _ (hk r q))
  · rw [show V11 m ρ c main_v3 = _ from W11_v3 m ρ c]
    exact (congrArg BitVec.toInt (bytes_action _ r)).trans (byte_action _ _ (ha r))
  · rw [show V11 m ρ c main_v19 = _ from W11_v19 m ρ c, show V11 m ρ c main_arg8 = _ from W11_args m ρ c main_arg8 (by decide),
      show V11 m ρ c main_v20 = _ from W11_v20 m ρ c, show V11 m ρ c main_v21 = _ from W11_v21 m ρ c,
      show V11 m ρ c main_v22 = _ from W11_v22 m ρ c, show V11 m ρ c main_v23 = _ from W11_v23 m ρ c]

/-- The program's result at a frame, at codes in range. -/
theorem result (k : Fin 20480 → Fin 147 → Fin 8) (a : Fin 20480 → Fin 16)
    (hk : ∀ (r : Fin 20480) (q : Fin 147), (m ((c : Thread nD τ).loc main_arg0) : IVec S20x1024x7x7x3 32)
      (ix5 (⟨r.val / 1024, by omega⟩ : Fin 20) (⟨r.val % 1024, by omega⟩ : Fin 1024)
        (⟨q.val / 21, by omega⟩ : Fin 7) (⟨q.val / 3 % 7, by omega⟩ : Fin 7) (⟨q.val % 3, by omega⟩ : Fin 3)) = BitVec.ofNat 32 (k r q).val)
    (ha : ∀ r : Fin 20480, (m ((c : Thread nD τ).loc main_arg1) : IVec S20x1024 32)
      (ix2 (⟨r.val / 1024, by omega⟩ : Fin 20) (⟨r.val % 1024, by omega⟩ : Fin 1024)) = BitVec.ofNat 32 (a r).val)
    (b : Fin 20) (s : Fin 1024) :
    (W13 m ρ c (Proc.devRef .tc main_v25) : FVec Ideal S20x1024x1 .f32) (ix3 b s (0 : Fin 1))
      = Spec.tail (Spec.first (fun v e => (m ((c : Thread nD τ).loc main_arg2) : FVec Ideal S32x16 .f32) (ix2 v e))
          (fun v e => (m ((c : Thread nD τ).loc main_arg3) : FVec Ideal S16x16 .f32) (ix2 v e))
          (fun v e => (m ((c : Thread nD τ).loc main_arg4) : FVec Ideal S8x16 .f32) (ix2 v e))
          (fun v e => (m ((c : Thread nD τ).loc main_arg5) : FVec Ideal S16x16 .f32) (ix2 v e))
          (fun i j => (m ((c : Thread nD τ).loc main_arg6) : FVec Ideal S2368x256 .f32) (ix2 i j))
          (fun j => (m ((c : Thread nD τ).loc main_arg7) : FVec Ideal S256 .f32) (ix1 j))
          (k ⟨b.val * 1024 + s.val, by omega⟩) (a ⟨b.val * 1024 + s.val, by omega⟩))
          (fun i j => (m ((c : Thread nD τ).loc main_arg8) : FVec Ideal S256x256 .f32) (ix2 i j))
          (fun j => (m ((c : Thread nD τ).loc main_arg9) : FVec Ideal S256 .f32) (ix1 j))
          (fun j => (m ((c : Thread nD τ).loc main_arg10) : FVec Ideal S256x1 .f32) (ix2 j (0 : Fin 1)))
          ((m ((c : Thread nD τ).loc main_arg11) : FVec Ideal S1 .f32) (ix1 (0 : Fin 1))) := by
  refine (congrFun (after_v25 (W12 m ρ c)) (ix3 b s (0 : Fin 1))).trans ?_
  rw [W12_v24 m ρ c k a hk ha]
  exact (frames_at _ b s).trans (rowOut_eq _ _ _ _ _ _ _ _ _ _ _ _)

end Cert.KernelIdeal.Val

end
-- ==== Proof.RefTake.lean ====
/- The reference's four table look-ups, read at an index under codes in range: each takes the row its code names. -/
module

public import proofs.«01_k».proof.Proof.Gen.ReferenceIdeal.Read
public import Idealize.ShloMosaic.Lib.Pointwise
public import Idealize.ShloMosaic.Lib.StableHlo.Predicate

@[expose] public section

set_option maxRecDepth 16384

noncomputable section

namespace Cert.ReferenceIdeal.Val

open Cert.ReferenceIdeal Cert.ReferenceIdeal.Read
open Idealize.ShloMosaic Idealize.ShloMosaic.TcCoe Idealize.ShloMosaic.Tactic

/-- The dimension numbers of a look-up of rows of a table by an array of cell codes. -/
abbrev cellDims (n : Nat) (wf : GatherDims.WF ⟨2, ![n, 16]⟩ S20480x7x7x1 S20480x7x7x16 [3] [0] [] [0] [] 3 ![1, 16]) :
    GatherDims ⟨2, ![n, 16]⟩ S20480x7x7x1 S20480x7x7x16 where
  offsetDims := [3]
  collapsedSliceDims := [0]
  operandBatchingDims := []
  startIndicesBatchingDims := []
  startIndexMap := [0]
  indexVectorDim := 3
  sliceSizes := ![1, 16]
  wf := wf

/-- A look-up by cell codes takes the row the code at the cell names. -/
theorem gather_cell {α : Type} {n : Nat} (hn : n < 2 ^ 31)
    (wf : GatherDims.WF ⟨2, ![n, 16]⟩ S20480x7x7x1 S20480x7x7x16 [3] [0] [] [0] [] 3 ![1, 16])
    (x : (⟨2, ![n, 16]⟩ : Shape).Idx → α) (idx : IVec S20480x7x7x1 32) (r : Fin 20480) (y w : Fin 7) (e : Fin 16) (b : Fin n)
    (hb : idx (ix4 r y w 0) = BitVec.ofNat 32 b.val) :
    Host.gather (cellDims n wf) x idx (ix4 r y w e) = x (ix2 b e) := by
  unfold Host.gather
  refine congrArg x (funext fun a => Fin.ext ?_)
  show (cellDims n wf).start (ix4 r y w e) idx a + (cellDims n wf).batchCoord (ix4 r y w e) a + (cellDims n wf).offCoord (ix4 r y w e) a = _
  rw [GatherDims.batchCoord_eq_zero _ _ _ List.not_mem_nil, Nat.add_zero]
  match a with
  | ⟨0, _⟩ =>
    have hsi : (cellDims n wf).siIdx (ix4 r y w e) ⟨List.idxOf (0 : Fin 2) (cellDims n wf).startIndexMap,
        List.idxOf_lt_length_iff.2 (List.mem_singleton.mpr rfl)⟩ = ix4 r y w 0 := by
      funext b; refine Fin.ext ?_
      match b with
      | ⟨0, _⟩ => rfl
      | ⟨1, _⟩ => rfl
      | ⟨2, _⟩ => rfl
      | ⟨3, _⟩ => rfl
    show (cellDims n wf).start (ix4 r y w e) idx 0 + (cellDims n wf).offCoord (ix4 r y w e) 0 = _
    rw [GatherDims.offCoord_eq_zero _ _ _ (fun h => ((GatherDims.mem_sKept _ _).mp h).1 (List.mem_singleton.mpr rfl)), Nat.add_zero]
    unfold GatherDims.start
    rw [dif_pos (show (0 : Fin 2) ∈ (cellDims n wf).startIndexMap from List.mem_singleton.mpr rfl), hsi, hb,
      StableHlo.Predicate.toInt_ofNat_small _ (by omega)]
    show min ((b.val : Int)).toNat (n - 1) = b.val
    omega
  | ⟨1, _⟩ =>
    show (cellDims n wf).start (ix4 r y w e) idx 1 + (cellDims n wf).offCoord (ix4 r y w e) 1 = _
    unfold GatherDims.start
    rw [dif_neg (by decide : (1 : Fin 2) ∉ ([0] : List (Fin 2))), Nat.zero_add]
    rfl

/-- A look-up by action codes takes the row the code names. -/
theorem gather_action {α : Type} (x : S16x16.Idx → α) (idx : IVec S20x1024x1 32) (p : Fin 20) (s : Fin 1024) (e : Fin 16) (b : Fin 16)
    (hb : idx (ix3 p s 0) = BitVec.ofNat 32 b.val) :
    Host.gather gather_S16x16_S20x1024x1_S20x1024x16_2_0_n_n_0_2_116 x idx (ix3 p s e) = x (ix2 b e) := by
  unfold Host.gather
  refine congrArg x (funext fun a => Fin.ext ?_)
  show GatherDims.start gather_S16x16_S20x1024x1_S20x1024x16_2_0_n_n_0_2_116 (ix3 p s e) idx a
    + GatherDims.batchCoord gather_S16x16_S20x1024x1_S20x1024x16_2_0_n_n_0_2_116 (ix3 p s e) a
    + GatherDims.offCoord gather_S16x16_S20x1024x1_S20x1024x16_2_0_n_n_0_2_116 (ix3 p s e) a = _
  rw [GatherDims.batchCoord_eq_zero _ _ _ List.not_mem_nil, Nat.add_zero]
  match a with
  | ⟨0, _⟩ =>
    have hsi : GatherDims.siIdx gather_S16x16_S20x1024x1_S20x1024x16_2_0_n_n_0_2_116 (ix3 p s e)
        ⟨List.idxOf (0 : Fin 2) gather_S16x16_S20x1024x1_S20x1024x16_2_0_n_n_0_2_116.startIndexMap,
        List.idxOf_lt_length_iff.2 (List.mem_singleton.mpr rfl)⟩ = ix3 p s 0 := by
      funext b; refine Fin.ext ?_
      match b with
      | ⟨0, _⟩ => rfl
      | ⟨1, _⟩ => rfl
      | ⟨2, _⟩ => rfl
    show GatherDims.start gather_S16x16_S20x1024x1_S20x1024x16_2_0_n_n_0_2_116 (ix3 p s e) idx 0
      + GatherDims.offCoord gather_S16x16_S20x1024x1_S20x1024x16_2_0_n_n_0_2_116 (ix3 p s e) 0 = _
    rw [GatherDims.offCoord_eq_zero _ _ _ (fun h => ((GatherDims.mem_sKept _ _).mp h).1 (List.mem_singleton.mpr rfl)), Nat.add_zero]
    unfold GatherDims.start
    rw [dif_pos (show (0 : Fin 2) ∈ gather_S16x16_S20x1024x1_S20x1024x16_2_0_n_n_0_2_116.startIndexMap from List.mem_singleton.mpr rfl), hsi, hb,
      StableHlo.Predicate.toInt_ofNat_small _ (by omega)]
    show min ((b.val : Int)).toNat (16 - 1) = b.val
    omega
  | ⟨1, _⟩ =>
    show GatherDims.start gather_S16x16_S20x1024x1_S20x1024x16_2_0_n_n_0_2_116 (ix3 p s e) idx 1
      + GatherDims.offCoord gather_S16x16_S20x1024x1_S20x1024x16_2_0_n_n_0_2_116 (ix3 p s e) 1 = _
    unfold GatherDims.start
    rw [dif_neg (show (1 : Fin 2) ∉ gather_S16x16_S20x1024x1_S20x1024x16_2_0_n_n_0_2_116.startIndexMap by decide), Nat.zero_add]
    rfl

/-- The object look-up at a cell. -/
theorem take_object (x0 : IVec S20x1024x7x7x3 32) (x2 : FVec Ideal S32x16 .f32) (r : Fin 20480) (y w : Fin 7) (e : Fin 16) (k : Fin 8)
    (h : x0 (ix5 ⟨r.val / 1024, by omega⟩ ⟨r.val % 1024, by omega⟩ y w (0 : Fin 3)) = BitVec.ofNat 32 k.val) :
    val_main_v3 (F := Ideal) x0 x2 (ix4 r y w e) = x2 (ix2 (⟨k.val, by omega⟩ : Fin 32) e) := by
  have h5 : val_main_call0_v5 (F := Ideal) x0 (ix4 r y w 0) = BitVec.ofNat 32 k.val := by
    unfold val_main_call0_v5 val_main_call0_v4 val_main_call0_v3 val_main_call0_v2 val_main_call0_v1 val_main_call0_v0
      val_main_call0_c val_main_call0_c_0 val_main_v2 val_main_v1 val_main_v0
    pointwise
    rw [h]
    fin_cases k <;> rfl
  have h12 : val_main_call0_v12 (F := Ideal) x0 (ix3 r y w) = 1#1 := by
    unfold val_main_call0_v12 val_main_call0_v11 val_main_call0_v10 val_main_call0_v9 val_main_call0_v8 val_main_call0_v7 val_main_call0_v6
      val_main_call0_c_1 val_main_call0_c_2 val_main_call0_c_3
    pointwise
    rw [Finset.univ_unique, Finset.fold_singleton, show (default : Fin 1) = 0 from rfl, h5]
    fin_cases k <;> rfl
  have h13 : val_main_call0_v13 (F := Ideal) x0 x2 (ix4 r y w e) = x2 (ix2 (⟨k.val, by omega⟩ : Fin 32) e) :=
    gather_cell (n := 32) (by decide) _ x2 _ r y w e ⟨k.val, by omega⟩ h5
  unfold val_main_v3 val_main_call0_v14
  pointwise
  rw [h12, h13]
  rfl

/-- The colour look-up at a cell. -/
theorem take_colour (x0 : IVec S20x1024x7x7x3 32) (x3 : FVec Ideal S16x16 .f32) (r : Fin 20480) (y w : Fin 7) (e : Fin 16) (k : Fin 8)
    (h : x0 (ix5 ⟨r.val / 1024, by omega⟩ ⟨r.val % 1024, by omega⟩ y w (1 : Fin 3)) = BitVec.ofNat 32 k.val) :
    val_main_v6 (F := Ideal) x0 x3 (ix4 r y w e) = x3 (ix2 (⟨k.val, by omega⟩ : Fin 16) e) := by
  have h5 : val_main_call1_v5 (F := Ideal) x0 (ix4 r y w 0) = BitVec.ofNat 32 k.val := by
    unfold val_main_call1_v5 val_main_call1_v4 val_main_call1_v3 val_main_call1_v2 val_main_call1_v1 val_main_call1_v0
      val_main_call1_c val_main_call1_c_0 val_main_v5 val_main_v4 val_main_v0
    pointwise
    rw [h]
    fin_cases k <;> rfl
  have h12 : val_main_call1_v12 (F := Ideal) x0 (ix3 r y w) = 1#1 := by
    unfold val_main_call1_v12 val_main_call1_v11 val_main_call1_v10 val_main_call1_v9 val_main_call1_v8 val_main_call1_v7 val_main_call1_v6
      val_main_call1_c_1 val_main_call1_c_2 val_main_call1_c_3
    pointwise
    rw [Finset.univ_unique, Finset.fold_singleton, show (default : Fin 1) = 0 from rfl, h5]
    fin_cases k <;> rfl
  have h13 : val_main_call1_v13 (F := Ideal) x0 x3 (ix4 r y w e) = x3 (ix2 (⟨k.val, by omega⟩ : Fin 16) e) :=
    gather_cell (n := 16) (by decide) _ x3 _ r y w e ⟨k.val, by omega⟩ h5
  unfold val_main_v6 val_main_call1_v14
  pointwise
  rw [h12, h13]
  rfl

/-- The state look-up at a cell. -/
theorem take_state (x0 : IVec S20x1024x7x7x3 32) (x4 : FVec Ideal S8x16 .f32) (r : Fin 20480) (y w : Fin 7) (e : Fin 16) (k : Fin 8)
    (h : x0 (ix5 ⟨r.val / 1024, by omega⟩ ⟨r.val % 1024, by omega⟩ y w (2 : Fin 3)) = BitVec.ofNat 32 k.val) :
    val_main_v9 (F := Ideal) x0 x4 (ix4 r y w e) = x4 (ix2 (⟨k.val, by omega⟩ : Fin 8) e) := by
  have h5 : val_main_call2_v5 (F := Ideal) x0 (ix4 r y w 0) = BitVec.ofNat 32 k.val := by
    unfold val_main_call2_v5 val_main_call2_v4 val_main_call2_v3 val_main_call2_v2 val_main_call2_v1 val_main_call2_v0
      val_main_call2_c val_main_call2_c_0 val_main_v8 val_main_v7 val_main_v0
    pointwise
    rw [h]
    fin_cases k <;> rfl
  have h12 : val_main_call2_v12 (F := Ideal) x0 (ix3 r y w) = 1#1 := by
    unfold val_main_call2_v12 val_main_call2_v11 val_main_call2_v10 val_main_call2_v9 val_main_call2_v8 val_main_call2_v7 val_main_call2_v6
      val_main_call2_c_1 val_main_call2_c_2 val_main_call2_c_3
    pointwise
    rw [Finset.univ_unique, Finset.fold_singleton, show (default : Fin 1) = 0 from rfl, h5]
    fin_cases k <;> rfl
  have h13 : val_main_call2_v13 (F := Ideal) x0 x4 (ix4 r y w e) = x4 (ix2 (⟨k.val, by omega⟩ : Fin 8) e) :=
    gather_cell (n := 8) (by decide) _ x4 _ r y w e ⟨k.val, by omega⟩ h5
  unfold val_main_v9 val_main_call2_v14
  pointwise
  rw [h12, h13]
  rfl

/-- The action look-up at a row. -/
theorem take_action (x1 : IVec S20x1024 32) (x5 : FVec Ideal S16x16 .f32) (p : Fin 20) (s : Fin 1024) (e : Fin 16) (a : Fin 16)
    (h : x1 (ix2 p s) = BitVec.ofNat 32 a.val) :
    val_main_v11 (F := Ideal) x1 x5 (ix3 p s e) = x5 (ix2 a e) := by
  have h5 : val_main_call3_v5 (F := Ideal) x1 (ix3 p s 0) = BitVec.ofNat 32 a.val := by
    unfold val_main_call3_v5 val_main_call3_v4 val_main_call3_v3 val_main_call3_v2 val_main_call3_v1 val_main_call3_v0
      val_main_call3_c val_main_call3_c_0
    pointwise
    rw [h]
    fin_cases a <;> rfl
  have h12 : val_main_call3_v12 (F := Ideal) x1 (ix2 p s) = 1#1 := by
    unfold val_main_call3_v12 val_main_call3_v11 val_main_call3_v10 val_main_call3_v9 val_main_call3_v8 val_main_call3_v7 val_main_call3_v6
      val_main_call3_c_1 val_main_call3_c_2 val_main_call3_c_3
    pointwise
    rw [Finset.univ_unique, Finset.fold_singleton, show (default : Fin 1) = 0 from rfl, h5]
    fin_cases a <;> rfl
  have h13 : val_main_call3_v13 (F := Ideal) x1 x5 (ix3 p s e) = x5 (ix2 a e) := gather_action x5 _ p s e a h5
  unfold val_main_v11 val_main_call3_v14
  pointwise
  rw [h12, h13]
  rfl

end Cert.ReferenceIdeal.Val

end
-- ==== Proof.RefInput.lean ====
/- The reference's first layer's inputs, read at an index under codes in range: a cell's sixteen are its code's embedding row,
   the last sixteen the action's. -/
module

public import proofs.«01_k».proof.Proof.RefTake
public import proofs.«01_k».proof.Proof.Spec

@[expose] public section

set_option maxRecDepth 16384

noncomputable section

namespace Cert.ReferenceIdeal.Val

open Cert.ReferenceIdeal Cert.ReferenceIdeal.Read
open Idealize.ShloMosaic Idealize.ShloMosaic.TcCoe Idealize.ShloMosaic.Tactic

variable (x0 : IVec S20x1024x7x7x3 32) (x1 : IVec S20x1024 32) (x2 : FVec Ideal S32x16 .f32) (x3 : FVec Ideal S16x16 .f32)
  (x4 : FVec Ideal S8x16 .f32) (x5 : FVec Ideal S16x16 .f32) (x6 : FVec Ideal S2368x256 .f32) (x7 : FVec Ideal S256 .f32)
  (x8 : FVec Ideal S256x256 .f32) (x9 : FVec Ideal S256 .f32) (x10 : FVec Ideal S256x1 .f32) (x11 : FVec Ideal S1 .f32)
  (p : Fin 20) (s : Fin 1024)

/-- An image code read through its flattened frame number. -/
theorem frame_code (y w : Fin 7) (ch : Fin 3) :
    x0 (ix5 (⟨(p.val * 1024 + s.val) / 1024, by omega⟩ : Fin 20) (⟨(p.val * 1024 + s.val) % 1024, by omega⟩ : Fin 1024) y w ch)
      = x0 (ix5 p s y w ch) := by
  have hp : (⟨(p.val * 1024 + s.val) / 1024, by omega⟩ : Fin 20) = p := Fin.ext (by simp only []; omega)
  have hs : (⟨(p.val * 1024 + s.val) % 1024, by omega⟩ : Fin 1024) = s := Fin.ext (by simp only []; omega)
  rw [hp, hs]

/-- The first layer's inputs of an image cell in the object channel are the object table's row. -/
theorem input_object (y w : Fin 7) (d : Fin 16) (k : Fin 8) (hk : x0 (ix5 p s y w (0 : Fin 3)) = BitVec.ofNat 32 k.val) :
    val_main_v13 (F := Ideal) x0 x1 x2 x3 x4 x5
      (ix3 p s (⟨16 * (21 * y.val + 3 * w.val) + d.val, by omega⟩ : Fin 2368)) = x2 (ix2 (⟨k.val, by omega⟩ : Fin 32) d) := by
  rw [← take_object x0 x2 (⟨p.val * 1024 + s.val, by omega⟩ : Fin 20480) y w d k ((frame_code x0 p s y w 0).trans hk)]
  unfold val_main_v13 val_main_v12 val_main_v10
  pointwise
  rw [dif_pos (by omega), dif_pos (by omega)]
  congr 1
  exact congrArg (ix4 _ y w) (Fin.ext (by simp only []; omega))

/-- The first layer's inputs of an image cell in the colour channel are the colour table's row. -/
theorem input_colour (y w : Fin 7) (d : Fin 16) (k : Fin 8) (hk : x0 (ix5 p s y w (1 : Fin 3)) = BitVec.ofNat 32 k.val) :
    val_main_v13 (F := Ideal) x0 x1 x2 x3 x4 x5
      (ix3 p s (⟨16 * (21 * y.val + 3 * w.val + 1) + d.val, by omega⟩ : Fin 2368)) = x3 (ix2 (⟨k.val, by omega⟩ : Fin 16) d) := by
  rw [← take_colour x0 x3 (⟨p.val * 1024 + s.val, by omega⟩ : Fin 20480) y w d k ((frame_code x0 p s y w 1).trans hk)]
  unfold val_main_v13 val_main_v12 val_main_v10
  pointwise
  rw [dif_pos (by omega), dif_neg (by omega), dif_pos (by omega)]
  congr 1
  exact congrArg (ix4 _ y w) (Fin.ext (by simp only []; omega))

/-- The first layer's inputs of an image cell in the state channel are the state table's row. -/
theorem input_state (y w : Fin 7) (d : Fin 16) (k : Fin 8) (hk : x0 (ix5 p s y w (2 : Fin 3)) = BitVec.ofNat 32 k.val) :
    val_main_v13 (F := Ideal) x0 x1 x2 x3 x4 x5
      (ix3 p s (⟨16 * (21 * y.val + 3 * w.val + 2) + d.val, by omega⟩ : Fin 2368)) = x4 (ix2 k d) := by
  rw [← take_state x0 x4 (⟨p.val * 1024 + s.val, by omega⟩ : Fin 20480) y w d k ((frame_code x0 p s y w 2).trans hk)]
  unfold val_main_v13 val_main_v12 val_main_v10
  pointwise
  rw [dif_pos (by omega), dif_neg (by omega), dif_neg (by omega)]
  congr 1
  exact congrArg (ix4 _ y w) (Fin.ext (by simp only []; omega))

/-- The first layer's last sixteen inputs are the action's embedding row. -/
theorem input_action (d a : Fin 16) (ha : x1 (ix2 p s) = BitVec.ofNat 32 a.val) :
    val_main_v13 (F := Ideal) x0 x1 x2 x3 x4 x5 (ix3 p s (⟨2352 + d.val, by omega⟩ : Fin 2368)) = x5 (ix2 a d) := by
  rw [← take_action x1 x5 p s d a ha]
  unfold val_main_v13
  pointwise

/-- The first layer's inputs of a cell are the embedding row of its code. -/
theorem input_cell (q : Fin 147) (d : Fin 16) (k : Fin 8)
    (hk : x0 (ix5 p s (⟨q.val / 21, by omega⟩ : Fin 7) (⟨q.val / 3 % 7, by omega⟩ : Fin 7) (⟨q.val % 3, by omega⟩ : Fin 3))
      = BitVec.ofNat 32 k.val) :
    val_main_v13 (F := Ideal) x0 x1 x2 x3 x4 x5 (ix3 p s (⟨16 * q.val + d.val, by omega⟩ : Fin 2368))
      = Spec.emb (fun v e => x2 (ix2 v e)) (fun v e => x3 (ix2 v e)) (fun v e => x4 (ix2 v e)) (Spec.chan q) k d := by
  unfold Spec.emb Spec.chan
  obtain h | h | h : q.val % 3 = 0 ∨ q.val % 3 = 1 ∨ q.val % 3 = 2 := by omega
  · have e : (⟨q.val % 3, by omega⟩ : Fin 3) = 0 := Fin.ext h
    rw [e] at hk ⊢
    rw [if_pos rfl]
    exact (congrArg (val_main_v13 (F := Ideal) x0 x1 x2 x3 x4 x5) (congrArg (ix3 p s) (Fin.ext (by simp only []; omega)))).trans
      (input_object x0 x1 x2 x3 x4 x5 p s _ _ d k hk)
  · have e : (⟨q.val % 3, by omega⟩ : Fin 3) = 1 := Fin.ext h
    rw [e] at hk ⊢
    rw [if_neg (by decide), if_pos rfl]
    exact (congrArg (val_main_v13 (F := Ideal) x0 x1 x2 x3 x4 x5) (congrArg (ix3 p s) (Fin.ext (by simp only []; omega)))).trans
      (input_colour x0 x1 x2 x3 x4 x5 p s _ _ d k hk)
  · have e : (⟨q.val % 3, by omega⟩ : Fin 3) = 2 := Fin.ext h
    rw [e] at hk ⊢
    rw [if_neg (by decide), if_neg (by decide)]
    exact (congrArg (val_main_v13 (F := Ideal) x0 x1 x2 x3 x4 x5) (congrArg (ix3 p s) (Fin.ext (by simp only []; omega)))).trans
      (input_state x0 x1 x2 x3 x4 x5 p s _ _ d k hk)

end Cert.ReferenceIdeal.Val

end
-- ==== Proof.RefValue.lean ====
/- The reference's result, read at an index under codes in range. -/
module

public import proofs.«01_k».proof.Proof.RefInput
public import proofs.«01_k».proof.Proof.Spec

@[expose] public section

set_option maxRecDepth 16384

noncomputable section

namespace Cert.ReferenceIdeal.Val

open Cert.ReferenceIdeal Cert.ReferenceIdeal.Read
open Idealize.ShloMosaic Idealize.ShloMosaic.TcCoe Idealize.ShloMosaic.Tactic

variable (x0 : IVec S20x1024x7x7x3 32) (x1 : IVec S20x1024 32) (x2 : FVec Ideal S32x16 .f32) (x3 : FVec Ideal S16x16 .f32)
  (x4 : FVec Ideal S8x16 .f32) (x5 : FVec Ideal S16x16 .f32) (x6 : FVec Ideal S2368x256 .f32) (x7 : FVec Ideal S256 .f32)
  (x8 : FVec Ideal S256x256 .f32) (x9 : FVec Ideal S256 .f32) (x10 : FVec Ideal S256x1 .f32) (x11 : FVec Ideal S1 .f32)
  (p : Fin 20) (s : Fin 1024)

/-- The first layer before its nonlinearity. -/
theorem layer_one (c : Fin 147 → Fin 8) (a : Fin 16)
    (hc : ∀ q : Fin 147, x0 (ix5 p s (⟨q.val / 21, by omega⟩ : Fin 7) (⟨q.val / 3 % 7, by omega⟩ : Fin 7)
      (⟨q.val % 3, by omega⟩ : Fin 3)) = BitVec.ofNat 32 (c q).val)
    (ha : x1 (ix2 p s) = BitVec.ofNat 32 a.val) (j : Fin 256) :
    val_main_v17 (F := Ideal) x0 x1 x2 x3 x4 x5 x6 x7 (ix3 p s j)
      = Spec.first (fun v e => x2 (ix2 v e)) (fun v e => x3 (ix2 v e)) (fun v e => x4 (ix2 v e)) (fun v e => x5 (ix2 v e))
          (fun k i => x6 (ix2 k i)) (fun i => x7 (ix1 i)) c a j := by
  rw [val_main_v17_apply, val_main_v16_apply, val_main_v15_apply, val_main_v14_apply, Spec.sum_inputs]
  have hl (k : Fin 2368) : lidx_main_v14 (ix3 p s j) k = ix3 p s k := by funext b; fin_cases b <;> rfl
  have hr (k : Fin 2368) : ridx_main_v14 (ix3 p s j) k = ix2 k j := by funext b; fin_cases b <;> rfl
  have hb : idx_main_v15 (idx_main_v16 (ix3 p s j)) = ix1 j := by funext b; fin_cases b; rfl
  rw [hb]
  simp only [hl, hr]
  have hq (q : Fin 147) (d : Fin 16) := input_cell x0 x1 x2 x3 x4 x5 p s q d (c q) (hc q)
  have hd (d : Fin 16) := input_action x0 x1 x2 x3 x4 x5 p s d a ha
  simp only [hq, hd]
  unfold Spec.first
  rw [Ideal.addf_def]

/-- The second layer before its nonlinearity, from the first's. -/
theorem layer_two (j : Fin 256) :
    val_main_v22 (F := Ideal) x0 x1 x2 x3 x4 x5 x6 x7 x8 x9 (ix3 p s j)
      = Spec.dense (fun k => val_main_v17 (F := Ideal) x0 x1 x2 x3 x4 x5 x6 x7 (ix3 p s k)) (fun k => x8 (ix2 k j)) (x9 (ix1 j)) := by
  rw [val_main_v22_apply, val_main_v21_apply, val_main_v20_apply, val_main_v19_apply]
  have hl (k : Fin 256) : lidx_main_v19 (ix3 p s j) k = ix3 p s k := by funext b; fin_cases b <;> rfl
  have hr (k : Fin 256) : ridx_main_v19 (ix3 p s j) k = ix2 k j := by funext b; fin_cases b <;> rfl
  have hb : idx_main_v20 (idx_main_v21 (ix3 p s j)) = ix1 j := by funext b; fin_cases b; rfl
  have hs (k : Fin 256) := val_main_v18_apply (F := Ideal) x0 x1 x2 x3 x4 x5 x6 x7 (ix3 p s k)
  rw [hb, Ideal.addf_def]
  simp only [hl, hr, hs]
  generalize val_main_v17 (F := Ideal) x0 x1 x2 x3 x4 x5 x6 x7 = l
  unfold Spec.dense
  simp only [Ideal.hostUnary_tanh_def]

/-- The last layer, from the second's. -/
theorem layer_three :
    val_main_v27 (F := Ideal) x0 x1 x2 x3 x4 x5 x6 x7 x8 x9 x10 x11 (ix3 p s (0 : Fin 1))
      = Spec.dense (fun k => val_main_v22 (F := Ideal) x0 x1 x2 x3 x4 x5 x6 x7 x8 x9 (ix3 p s k)) (fun k => x10 (ix2 k (0 : Fin 1)))
          (x11 (ix1 (0 : Fin 1))) := by
  rw [val_main_v27_apply, val_main_v26_apply, val_main_v25_apply, val_main_v24_apply]
  have hl (k : Fin 256) : lidx_main_v24 (ix3 p s (0 : Fin 1)) k = ix3 p s k := by funext b; fin_cases b <;> rfl
  have hr (k : Fin 256) : ridx_main_v24 (ix3 p s (0 : Fin 1)) k = ix2 k (0 : Fin 1) := by funext b; fin_cases b <;> rfl
  have hb : idx_main_v25 (idx_main_v26 (ix3 p s (0 : Fin 1))) = ix1 (0 : Fin 1) := by funext b; fin_cases b; rfl
  have hs (k : Fin 256) := val_main_v23_apply (F := Ideal) x0 x1 x2 x3 x4 x5 x6 x7 x8 x9 (ix3 p s k)
  rw [hb, Ideal.addf_def]
  simp only [hl, hr, hs]
  generalize val_main_v22 (F := Ideal) x0 x1 x2 x3 x4 x5 x6 x7 x8 x9 = l
  unfold Spec.dense
  simp only [Ideal.hostUnary_tanh_def]

/-- The reference's result at a frame, from the frame's codes. -/
theorem result (c : Fin 147 → Fin 8) (a : Fin 16)
    (hc : ∀ q : Fin 147, x0 (ix5 p s (⟨q.val / 21, by omega⟩ : Fin 7) (⟨q.val / 3 % 7, by omega⟩ : Fin 7)
      (⟨q.val % 3, by omega⟩ : Fin 3)) = BitVec.ofNat 32 (c q).val)
    (ha : x1 (ix2 p s) = BitVec.ofNat 32 a.val) :
    val_main_v27 (F := Ideal) x0 x1 x2 x3 x4 x5 x6 x7 x8 x9 x10 x11 (ix3 p s (0 : Fin 1))
      = Spec.tail (Spec.first (fun v e => x2 (ix2 v e)) (fun v e => x3 (ix2 v e)) (fun v e => x4 (ix2 v e))
          (fun v e => x5 (ix2 v e)) (fun k i => x6 (ix2 k i)) (fun i => x7 (ix1 i)) c a)
          (fun k i => x8 (ix2 k i)) (fun i => x9 (ix1 i)) (fun k => x10 (ix2 k (0 : Fin 1))) (x11 (ix1 (0 : Fin 1))) := by
  have h1 := funext (layer_one x0 x1 x2 x3 x4 x5 x6 x7 p s c a hc ha)
  have h2 := funext (layer_two x0 x1 x2 x3 x4 x5 x6 x7 x8 x9 p s)
  rw [layer_three, h2, h1]
  unfold Spec.tail Spec.dense
  rfl

end Cert.ReferenceIdeal.Val

end
-- ==== Proof.Equal.lean ====
/- The two programs' results agree, at argument arrays in the precondition's range. -/
module

public import proofs.«01_k».proof.Defs
public import proofs.«01_k».proof.Proof.Codes
public import proofs.«01_k».proof.Proof.KernelRun
public import proofs.«01_k».proof.Proof.KernelValue
public import proofs.«01_k».proof.Proof.RefValue
public import proofs.«01_k».proof.Proof.Gen.ReferenceIdeal.Run

@[expose] public section

set_option maxRecDepth 16384

noncomputable section

namespace Cert.Proof

open Idealize.ShloMosaic Idealize.ShloMosaic.Tactic Idealize.SL.Sem

/-- The kernel program's result array is the reference's function of the kernel program's arguments. -/
theorem results_eq (m : (ℓ : Loc Cert.KernelIdeal.nD Cert.KernelIdeal.τ Cert.KernelIdeal.sig) → Buf (Elt Ideal) ℓ)
    (g : Dev Cert.KernelIdeal.nD → PrngReg)
    (hpre : Cert.Pre_KernelIdeal_codes_in_range (hPre_codes_in_range := Cert.Pre_codes_in_range.facts) m) (c : Dev Cert.KernelIdeal.nD) :
    Cert.ReferenceIdeal.Read.val_main_v27 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
      = Cert.KernelIdeal.Gen.W13 m g c (Proc.devRef .tc Cert.KernelIdeal.main_v25) := by
  haveI := Cert.Pre_codes_in_range.facts
  have hi := Cert.Pre_codes_in_range.image_lt _ _ _ _ _ _ _ _ _ _ _ _ (hpre c).1
  have hj := Cert.Pre_codes_in_range.action_lt _ _ _ _ _ _ _ _ _ _ _ _ (hpre c).2
  have hk (r : Fin 20480) (q : Fin 147) := hi (ix5 (⟨r.val / 1024, by omega⟩ : Fin 20) (⟨r.val % 1024, by omega⟩ : Fin 1024)
    (⟨q.val / 21, by omega⟩ : Fin 7) (⟨q.val / 3 % 7, by omega⟩ : Fin 7) (⟨q.val % 3, by omega⟩ : Fin 3))
  have ha (r : Fin 20480) := hj (ix2 (⟨r.val / 1024, by omega⟩ : Fin 20) (⟨r.val % 1024, by omega⟩ : Fin 1024))
  have hK := Cert.KernelIdeal.Val.result m g c (fun r q => ⟨_, hk r q⟩) (fun r => ⟨_, ha r⟩)
    (fun r q => (Cert.Pre_codes_in_range.ofNat_self _).symm) (fun r => (Cert.Pre_codes_in_range.ofNat_self _).symm)
  funext y
  obtain ⟨b, s, z, rfl⟩ : ∃ (b : Fin 20) (s : Fin 1024) (z : Fin 1), y = ix3 b s z := ⟨_, _, _, eq_ix3 y⟩
  obtain rfl : z = 0 := Subsingleton.elim _ _
  have hb : (⟨(b.val * 1024 + s.val) / 1024, by omega⟩ : Fin 20) = b := Fin.ext (by simp only []; omega)
  have hs : (⟨(b.val * 1024 + s.val) % 1024, by omega⟩ : Fin 1024) = s := Fin.ext (by simp only []; omega)
  refine (Cert.ReferenceIdeal.Val.result _ _ _ _ _ _ _ _ _ _ _ _ b s
    (fun q => ⟨_, hk ⟨b.val * 1024 + s.val, by omega⟩ q⟩) ⟨_, ha ⟨b.val * 1024 + s.val, by omega⟩⟩ (fun q => ?_) ?_).trans (hK b s).symm
  · simp only [hb, hs]
    exact (Cert.Pre_codes_in_range.ofNat_self _).symm
  · simp only [hb, hs]
    exact (Cert.Pre_codes_in_range.ofNat_self _).symm

/-- The kernel program and the reference compute the same array over the extended reals, at codes in range. -/
theorem algebraic : Cert.algebraic_KernelIdeal_ReferenceIdeal_pre_codes_in_range (hKernelIdeal := Cert.KernelIdeal.Gen.facts)
    (hReferenceIdeal := Cert.ReferenceIdeal.Gen.facts) (hPre_codes_in_range := Cert.Pre_codes_in_range.facts) := by
  intro m g m' g' hpre hag
  refine ⟨fun c => Cert.KernelIdeal.Gen.W13 m g c (Proc.devRef .tc Cert.KernelIdeal.main_v25),
    (θ_run _ _ _).mono (fun r h => h.1) (Cert.KernelIdeal.Val.run_value m g),
    (θ_run _ _ _).mono (fun r h c => ⟨(h c).1.trans ?_, (h c).2⟩) (Cert.ReferenceIdeal.Value.run m' g')⟩
  obtain ⟨h0, h1, h2, h3, h4, h5, h6, h7, h8, h9, h10, h11⟩ := hag c
  rw [Cert.ReferenceIdeal.Read.val_main_v27_eq, h0, h1, h2, h3, h4, h5, h6, h7, h8, h9, h10, h11]
  exact results_eq m g hpre c

end Cert.Proof

end
-- ==== Proof.RefFrame.lean ====
/- The reference program's frame: it runs, leaves its arguments as they were and every counter at zero. -/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

/-- The reference leaves its arguments and all counters as the launch had them: it has no semaphore. -/
theorem frame_reference : Cert.quiescent_ReferenceIdeal (hReferenceIdeal := Cert.ReferenceIdeal.Gen.facts) := by
  intro m g _
  exact (θ_run _ _ _).mono (fun r h => ⟨fun c => (h c).2, sem_eq_zero_of_no_sems rfl r.2⟩) (Cert.ReferenceIdeal.Value.run m g)

end Cert.Proof

end
-- ==== Proof.lean ====
module

public import proofs.«01_k».proof.Defs
public import proofs.«01_k».proof.Proof.Equal
public import proofs.«01_k».proof.Proof.RefFrame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_codes_in_range.facts,
  fun m g _ => Cert.Kernel.Gen.frame m g, fun m g _ => Cert.KernelIdeal.Gen.frame m g, fun m g _ => Cert.KernelIdeal.Gen.frame m g,
  frame_reference, fun m g _ => frame_reference m g trivial, trivial, algebraic⟩

end Cert.Proof

end
